-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S4096x8192 : Shape := ⟨2, ![4096, 8192]⟩
abbrev S7x512x8192 : Shape := ⟨3, ![7, 512, 8192]⟩
abbrev S2x2x512x4096 : Shape := ⟨4, ![2, 2, 512, 4096]⟩
abbrev S512x4096 : Shape := ⟨2, ![512, 4096]⟩
abbrev S256x4096 : Shape := ⟨2, ![256, 4096]⟩
abbrev S8x128 : Shape := ⟨2, ![8, 128]⟩
abbrev S8x8x128 : Shape := ⟨3, ![8, 8, 128]⟩
abbrev S7 : Shape := ⟨1, ![7]⟩
abbrev S_ : Shape := ⟨0, ![]⟩
abbrev S2 : Shape := ⟨1, ![2]⟩
abbrev S512x512 : Shape := ⟨2, ![512, 512]⟩
abbrev S1x1x512x4096 : Shape := ⟨4, ![1, 1, 512, 4096]⟩
abbrev S1 : Shape := ⟨1, ![1]⟩
abbrev S1x512x4096 : Shape := ⟨3, ![1, 512, 4096]⟩
abbrev S1x1x1 : Shape := ⟨3, ![1, 1, 1]⟩
abbrev S1x8x128 : Shape := ⟨3, ![1, 8, 128]⟩
abbrev S1x1x8x128 : Shape := ⟨4, ![1, 1, 8, 128]⟩
abbrev S1x1x1x1 : Shape := ⟨4, ![1, 1, 1, 1]⟩

abbrev nBuf : Space → Nat
  | .hbm => 5
  | .vmem => 11
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S4096x8192, .f32⟩
  | .hbm, ⟨3, _⟩ => ⟨S4096x8192, .bf16⟩
  | .hbm, ⟨4, _⟩ => ⟨S7x512x8192, .bf16⟩
  | .local _ .vmem, ⟨0, _⟩ => ⟨S4096x512, .bf16⟩
  | .local _ .vmem, ⟨1, _⟩ => ⟨S512x8192, .bf16⟩
  | .local _ .vmem, ⟨2, _⟩ => ⟨S2x2x512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S256x4096, .f32⟩
  | .local _ .vmem, ⟨8, _⟩ => ⟨S256x4096, .f32⟩
  | .local _ .vmem, ⟨9, _⟩ => ⟨S8x128, .f32⟩
  | .local _ .vmem, ⟨10, _⟩ => ⟨S8x8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v8 : BitVec 32 := Scalar.subi v2 c1_i32_5
  let v9 : BitVec 32 := Scalar.subi v8 c0_i32
  let c16_i32 : BitVec 32 := 16#32
  let v10 : BitVec 32 := Scalar.addi v9 c16_i32
  let c8_i32_6 : BitVec 32 := 8#32
  let v11 : BitVec 32 := Scalar.remsi v10 c8_i32_6
  let c512_i32 : BitVec 32 := 512#32
  let v15 : BitVec 32 := Scalar.muli v11 c512_i32
  let v16 : Index := Scalar.indexCast v15
  let c0 : Index := 0#32
  ![v16.toNat, 0]
def k0_off2 (d0 : Dev nD) (c0_i32_8 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v12 : BitVec 32 := Scalar.addi v2 c1_i32_7
  let v13 : BitVec 32 := Scalar.addi v12 c0_i32_8
  let c8_i32_9 : BitVec 32 := 8#32
  let v14 : BitVec 32 := Scalar.remsi v13 c8_i32_9
  let c512_i32_16 : BitVec 32 := 512#32
  let v26 : BitVec 32 := Scalar.muli v14 c512_i32_16
  let v27 : Index := Scalar.indexCast v26
  let c0_17 : Index := 0#32
  ![v27.toNat, 0]
def k0_dev1 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_38 : BitVec 32 := 1#32
  let v47 : BitVec 32 := Scalar.muli v4 c1_i32_38
  let v48 : BitVec 32 := Scalar.addi c0_i32_39 v47
  v48.toNat
def k0_dev2 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_45 : BitVec 32 := 1#32
  let v55 : BitVec 32 := Scalar.muli v7 c1_i32_45
  let v56 : BitVec 32 := Scalar.addi c0_i32_46 v55
  v56.toNat
def k0_dev3 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_130 : BitVec 32 := 1#32
  let v134 : BitVec 32 := Scalar.muli v4 c1_i32_130
  let v135 : BitVec 32 := Scalar.addi c0_i32_131 v134
  v135.toNat
def k0_dev4 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_137 : BitVec 32 := 1#32
  let v142 : BitVec 32 := Scalar.muli v7 c1_i32_137
  let v143 : BitVec 32 := Scalar.addi c0_i32_138 v142
  v143.toNat
def k0_dev5 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_222 : BitVec 32 := 1#32
  let v221 : BitVec 32 := Scalar.muli v4 c1_i32_222
  let v222 : BitVec 32 := Scalar.addi c0_i32_223 v221
  v222.toNat
def k0_dev6 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_229 : BitVec 32 := 1#32
  let v229 : BitVec 32 := Scalar.muli v7 c1_i32_229
  let v230 : BitVec 32 := Scalar.addi c0_i32_230 v229
  v230.toNat
def k0_dev7 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_314 : BitVec 32 := 1#32
  let v308 : BitVec 32 := Scalar.muli v4 c1_i32_314
  let v309 : BitVec 32 := Scalar.addi c0_i32_315 v308
  v309.toNat
def k0_dev8 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_321 : BitVec 32 := 1#32
  let v316 : BitVec 32 := Scalar.muli v7 c1_i32_321
  let v317 : BitVec 32 := Scalar.addi c0_i32_322 v316
  v317.toNat
def k0_dev9 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_406 : BitVec 32 := 1#32
  let v395 : BitVec 32 := Scalar.muli v4 c1_i32_406
  let v396 : BitVec 32 := Scalar.addi c0_i32_407 v395
  v396.toNat
def k0_dev10 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_413 : BitVec 32 := 1#32
  let v403 : BitVec 32 := Scalar.muli v7 c1_i32_413
  let v404 : BitVec 32 := Scalar.addi c0_i32_414 v403
  v404.toNat
def k0_dev11 (d0 : Dev nD) : Nat :=
  let c0_i32_499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_498 : BitVec 32 := 1#32
  let v482 : BitVec 32 := Scalar.muli v4 c1_i32_498
  let v483 : BitVec 32 := Scalar.addi c0_i32_499 v482
  v483.toNat
def k0_dev12 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_505 : BitVec 32 := 1#32
  let v490 : BitVec 32 := Scalar.muli v7 c1_i32_505
  let v491 : BitVec 32 := Scalar.addi c0_i32_506 v490
  v491.toNat
def k0_dev13 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_590 : BitVec 32 := 1#32
  let v569 : BitVec 32 := Scalar.muli v4 c1_i32_590
  let v570 : BitVec 32 := Scalar.addi c0_i32_591 v569
  v570.toNat
def k0_dev14 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_597 : BitVec 32 := 1#32
  let v577 : BitVec 32 := Scalar.muli v7 c1_i32_597
  let v578 : BitVec 32 := Scalar.addi c0_i32_598 v577
  v578.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_679 : BitVec 32 := 512#32
  let v656 : BitVec 32 := Scalar.muli v2 c512_i32_679
  let c0_i32_680 : BitVec 32 := 0#32
  ![v656.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_682 : BitVec 32 := 512#32
  let v659 : BitVec 32 := Scalar.muli v2 c512_i32_682
  let c4096_i32_683 : BitVec 32 := 4096#32
  ![v659.toNat, 4096]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_699 : BitVec 32 := 0#32
  let c0_i32_700 : BitVec 32 := 0#32
  ![v2.toNat, 0, 0]
def k0_dev15 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_693 : BitVec 32 := 1#32
  let v681 : BitVec 32 := Scalar.addi v2 c1_i32_693
  let c8_i32_694 : BitVec 32 := 8#32
  let v682 : BitVec 32 := Scalar.remsi v681 c8_i32_694
  let c1_i32_697 : BitVec 32 := 1#32
  let v683 : BitVec 32 := Scalar.muli v682 c1_i32_697
  let v684 : BitVec 32 := Scalar.addi c0_i32_698 v683
  v684.toNat
def k0_dev16 (d0 : Dev nD) : Nat :=
  let c0_i32_706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_701 : BitVec 32 := 2#32
  let v691 : BitVec 32 := Scalar.addi v2 c2_i32_701
  let c8_i32_702 : BitVec 32 := 8#32
  let v692 : BitVec 32 := Scalar.remsi v691 c8_i32_702
  let c1_i32_705 : BitVec 32 := 1#32
  let v693 : BitVec 32 := Scalar.muli v692 c1_i32_705
  let v694 : BitVec 32 := Scalar.addi c0_i32_706 v693
  v694.toNat
def k0_dev17 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_709 : BitVec 32 := 3#32
  let v701 : BitVec 32 := Scalar.addi v2 c3_i32_709
  let c8_i32_710 : BitVec 32 := 8#32
  let v702 : BitVec 32 := Scalar.remsi v701 c8_i32_710
  let c1_i32_713 : BitVec 32 := 1#32
  let v703 : BitVec 32 := Scalar.muli v702 c1_i32_713
  let v704 : BitVec 32 := Scalar.addi c0_i32_714 v703
  v704.toNat
def k0_dev18 (d0 : Dev nD) : Nat :=
  let c0_i32_722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_717 : BitVec 32 := 4#32
  let v711 : BitVec 32 := Scalar.addi v2 c4_i32_717
  let c8_i32_718 : BitVec 32 := 8#32
  let v712 : BitVec 32 := Scalar.remsi v711 c8_i32_718
  let c1_i32_721 : BitVec 32 := 1#32
  let v713 : BitVec 32 := Scalar.muli v712 c1_i32_721
  let v714 : BitVec 32 := Scalar.addi c0_i32_722 v713
  v714.toNat
def k0_dev19 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_725 : BitVec 32 := 5#32
  let v721 : BitVec 32 := Scalar.addi v2 c5_i32_725
  let c8_i32_726 : BitVec 32 := 8#32
  let v722 : BitVec 32 := Scalar.remsi v721 c8_i32_726
  let c1_i32_729 : BitVec 32 := 1#32
  let v723 : BitVec 32 := Scalar.muli v722 c1_i32_729
  let v724 : BitVec 32 := Scalar.addi c0_i32_730 v723
  v724.toNat
def k0_dev20 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_733 : BitVec 32 := 6#32
  let v731 : BitVec 32 := Scalar.addi v2 c6_i32_733
  let c8_i32_734 : BitVec 32 := 8#32
  let v732 : BitVec 32 := Scalar.remsi v731 c8_i32_734
  let c1_i32_737 : BitVec 32 := 1#32
  let v733 : BitVec 32 := Scalar.muli v732 c1_i32_737
  let v734 : BitVec 32 := Scalar.addi c0_i32_738 v733
  v734.toNat
def k0_dev21 (d0 : Dev nD) : Nat :=
  let c0_i32_746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_741 : BitVec 32 := 7#32
  let v741 : BitVec 32 := Scalar.addi v2 c7_i32_741
  let c8_i32_742 : BitVec 32 := 8#32
  let v742 : BitVec 32 := Scalar.remsi v741 c8_i32_742
  let c1_i32_745 : BitVec 32 := 1#32
  let v743 : BitVec 32 := Scalar.muli v742 c1_i32_745
  let v744 : BitVec 32 := Scalar.addi c0_i32_746 v743
  v744.toNat
def k0_off6 (d0 : Dev nD) (c0_i32_749 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v751 : BitVec 32 := Scalar.subi v2 c0_i32_749
  let c16_i32_750 : BitVec 32 := 16#32
  let v752 : BitVec 32 := Scalar.addi v751 c16_i32_750
  let c8_i32_751 : BitVec 32 := 8#32
  let v753 : BitVec 32 := Scalar.remsi v752 c8_i32_751
  let c512_i32_755 : BitVec 32 := 512#32
  let v757 : BitVec 32 := Scalar.muli v753 c512_i32_755
  let c0_i32_762 : BitVec 32 := 0#32
  ![v757.toNat, 0]
def k0_dev22 (d0 : Dev nD) : Nat :=
  let c0_i32_761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_760 : BitVec 32 := 1#32
  let v760 : BitVec 32 := Scalar.muli v4 c1_i32_760
  let v761 : BitVec 32 := Scalar.addi c0_i32_761 v760
  v761.toNat
def k0_off7 (d0 : Dev nD) (c0_i32_752 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v754 : BitVec 32 := Scalar.addi v2 c0_i32_752
  let c8_i32_753 : BitVec 32 := 8#32
  let v755 : BitVec 32 := Scalar.remsi v754 c8_i32_753
  let c512_i32_757 : BitVec 32 := 512#32
  let v759 : BitVec 32 := Scalar.muli v755 c512_i32_757
  let c4096_i32_768 : BitVec 32 := 4096#32
  ![v759.toNat, 4096]
def k0_dev23 (d0 : Dev nD) : Nat :=
  let c0_i32_767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_766 : BitVec 32 := 1#32
  let v768 : BitVec 32 := Scalar.muli v7 c1_i32_766
  let v769 : BitVec 32 := Scalar.addi c0_i32_767 v768
  v769.toNat
def k0_off8 (d0 : Dev nD) (c1_i32_770 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v776 : BitVec 32 := Scalar.subi v2 c1_i32_770
  let c16_i32_771 : BitVec 32 := 16#32
  let v777 : BitVec 32 := Scalar.addi v776 c16_i32_771
  let c8_i32_772 : BitVec 32 := 8#32
  let v778 : BitVec 32 := Scalar.remsi v777 c8_i32_772
  let c0_i32_777 : BitVec 32 := 0#32
  let c0_i32_778 : BitVec 32 := 0#32
  ![v778.toNat, 0, 0]
def k0_off9 (d0 : Dev nD) (c1_i32_770 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v776 : BitVec 32 := Scalar.subi v2 c1_i32_770
  let c16_i32_771 : BitVec 32 := 16#32
  let v777 : BitVec 32 := Scalar.addi v776 c16_i32_771
  let c8_i32_772 : BitVec 32 := 8#32
  let v778 : BitVec 32 := Scalar.remsi v777 c8_i32_772
  let v785 : Index := Scalar.indexCast v778
  let c0_779 : Index := 0#32
  let c0_780 : Index := 0#32
  ![v785.toNat, 0, 0]
def k0_off10 (d0 : Dev nD) (c0_i32_870 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_856 : BitVec 32 := 512#32
  let v890 : BitVec 32 := Scalar.muli v2 c512_i32_856
  let v920 : BitVec 32 := Scalar.addi v890 c0_i32_870
  let c0_i32_873 : BitVec 32 := 0#32
  ![v920.toNat, 0]
def k0_off11 (d0 : Dev nD) (c0_i32_871 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_857 : BitVec 32 := 512#32
  let v891 : BitVec 32 := Scalar.muli v2 c512_i32_857
  let v921 : BitVec 32 := Scalar.addi v891 c0_i32_871
  let c4096_i32_875 : BitVec 32 := 4096#32
  ![v921.toNat, 4096]
def k0_dev24 (d0 : Dev nD) : Nat :=
  let c0_i32_934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_933 : BitVec 32 := 1#32
  let v1005 : BitVec 32 := Scalar.muli v4 c1_i32_933
  let v1006 : BitVec 32 := Scalar.addi c0_i32_934 v1005
  v1006.toNat
def k0_dev25 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_939 : BitVec 32 := 1#32
  let v1013 : BitVec 32 := Scalar.muli v7 c1_i32_939
  let v1014 : BitVec 32 := Scalar.addi c0_i32_940 v1013
  v1014.toNat
def k0_off12 (d0 : Dev nD) (c1_i32_943 : BitVec 32) (c0_i32_968 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1021 : BitVec 32 := Scalar.subi v2 c1_i32_943
  let c16_i32_944 : BitVec 32 := 16#32
  let v1022 : BitVec 32 := Scalar.addi v1021 c16_i32_944
  let c8_i32_945 : BitVec 32 := 8#32
  let v1023 : BitVec 32 := Scalar.remsi v1022 c8_i32_945
  let c512_i32_954 : BitVec 32 := 512#32
  let v1032 : BitVec 32 := Scalar.muli v1023 c512_i32_954
  let v1062 : BitVec 32 := Scalar.addi v1032 c0_i32_968
  let c0_i32_971 : BitVec 32 := 0#32
  ![v1062.toNat, 0]
def k0_off13 (d0 : Dev nD) (c1_i32_946 : BitVec 32) (c0_i32_969 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1024 : BitVec 32 := Scalar.addi v2 c1_i32_946
  let c8_i32_947 : BitVec 32 := 8#32
  let v1025 : BitVec 32 := Scalar.remsi v1024 c8_i32_947
  let c512_i32_955 : BitVec 32 := 512#32
  let v1033 : BitVec 32 := Scalar.muli v1025 c512_i32_955
  let v1063 : BitVec 32 := Scalar.addi v1033 c0_i32_969
  let c4096_i32_973 : BitVec 32 := 4096#32
  ![v1063.toNat, 4096]
def k0_dev26 (d0 : Dev nD) : Nat :=
  let c0_i32_1034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1033 : BitVec 32 := 1#32
  let v1147 : BitVec 32 := Scalar.muli v4 c1_i32_1033
  let v1148 : BitVec 32 := Scalar.addi c0_i32_1034 v1147
  v1148.toNat
def k0_dev27 (d0 : Dev nD) : Nat :=
  let c0_i32_1040 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_1039 : BitVec 32 := 1#32
  let v1155 : BitVec 32 := Scalar.muli v7 c1_i32_1039
  let v1156 : BitVec 32 := Scalar.addi c0_i32_1040 v1155
  v1156.toNat
def k0_dev28 (d0 : Dev nD) : Nat :=
  let c0_i32_1134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1133 : BitVec 32 := 1#32
  let v1289 : BitVec 32 := Scalar.muli v4 c1_i32_1133
  let v1290 : BitVec 32 := Scalar.addi c0_i32_1134 v1289
  v1290.toNat
def k0_dev29 (d0 : Dev nD) : Nat :=
  let c0_i32_1140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_1139 : BitVec 32 := 1#32
  let v1297 : BitVec 32 := Scalar.muli v7 c1_i32_1139
  let v1298 : BitVec 32 := Scalar.addi c0_i32_1140 v1297
  v1298.toNat
def k0_dev30 (d0 : Dev nD) : Nat :=
  let c0_i32_1234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1233 : BitVec 32 := 1#32
  let v1431 : BitVec 32 := Scalar.muli v4 c1_i32_1233
  let v1432 : BitVec 32 := Scalar.addi c0_i32_1234 v1431
  v1432.toNat
def k0_dev31 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_1239 : BitVec 32 := 1#32
  let v1439 : BitVec 32 := Scalar.muli v7 c1_i32_1239
  let v1440 : BitVec 32 := Scalar.addi c0_i32_1240 v1439
  v1440.toNat
def k0_dev32 (d0 : Dev nD) : Nat :=
  let c0_i32_1334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1333 : BitVec 32 := 1#32
  let v1573 : BitVec 32 := Scalar.muli v4 c1_i32_1333
  let v1574 : BitVec 32 := Scalar.addi c0_i32_1334 v1573
  v1574.toNat
def k0_dev33 (d0 : Dev nD) : Nat :=
  let c0_i32_1340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_1339 : BitVec 32 := 1#32
  let v1581 : BitVec 32 := Scalar.muli v7 c1_i32_1339
  let v1582 : BitVec 32 := Scalar.addi c0_i32_1340 v1581
  v1582.toNat
def k0_dev34 (d0 : Dev nD) : Nat :=
  let c0_i32_1434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1433 : BitVec 32 := 1#32
  let v1715 : BitVec 32 := Scalar.muli v4 c1_i32_1433
  let v1716 : BitVec 32 := Scalar.addi c0_i32_1434 v1715
  v1716.toNat
def k0_dev35 (d0 : Dev nD) : Nat :=
  let c0_i32_1440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v5 : BitVec 32 := Scalar.subi v2 c1_i32_2
  let c8_i32_3 : BitVec 32 := 8#32
  let v6 : BitVec 32 := Scalar.addi v5 c8_i32_3
  let c8_i32_4 : BitVec 32 := 8#32
  let v7 : BitVec 32 := Scalar.remsi v6 c8_i32_4
  let c1_i32_1439 : BitVec 32 := 1#32
  let v1723 : BitVec 32 := Scalar.muli v7 c1_i32_1439
  let v1724 : BitVec 32 := Scalar.addi c0_i32_1440 v1723
  v1724.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Points

@[expose] public section

noncomputable section

/-! # The kernel's body as a sequence of blocks

The printed body is one long sequence of memory operations. Here the same sequence is written as calls of a few blocks,
each at a step number, so that a block is reasoned about once for all the steps that run it. -/

namespace Cert.KernelIdeal.Own

open Idealize.ShloMosaic Idealize.SL.Sem Cert.KernelIdeal.Gen

variable {F : FTy → Type} [FloatOps F]

/-! ## The buffers -/

/-- The staged block of `x`. -/
abbrev xM : Memref sig .tc .vmem S4096x512 .bf16 := Memref.whole cc0_stg0_0
/-- The staged block of `w`. -/
abbrev wM : Memref sig .tc .vmem S512x8192 .bf16 := Memref.whole cc0_stg1_0
/-- The result. -/
abbrev outM : Memref sig .tc .hbm S4096x8192 .f32 := Memref.whole main_v1_0
/-- The reduced chunks. -/
abbrev yM : Memref sig .tc .hbm S4096x8192 .bf16 := Memref.whole main_v1_1
/-- What the neighbours' partial sums land in. -/
abbrev recvM : Memref sig .tc .hbm S7x512x8192 .bf16 := Memref.whole main_v1_2
/-- The partial products, two slots of two halves. -/
abbrev pcM : Memref sig .tc .vmem S2x2x512x4096 .bf16 := Memref.whole cc0_scratch0
/-- Receive buffer of the right ring. -/
abbrev rvrM : Memref sig .tc .vmem S512x4096 .bf16 := Memref.whole cc0_scratch1
/-- Send buffer of the right ring. -/
abbrev svrM : Memref sig .tc .vmem S512x4096 .bf16 := Memref.whole cc0_scratch2
/-- Receive buffer of the left ring. -/
abbrev rvlM : Memref sig .tc .vmem S512x4096 .bf16 := Memref.whole cc0_scratch3
/-- Send buffer of the left ring. -/
abbrev svlM : Memref sig .tc .vmem S512x4096 .bf16 := Memref.whole cc0_scratch4
/-- The quantised rows, right half. -/
abbrev qvrM : Memref sig .tc .vmem S256x4096 .f32 := Memref.whole cc0_scratch5
/-- The quantised rows, left half. -/
abbrev qvlM : Memref sig .tc .vmem S256x4096 .f32 := Memref.whole cc0_scratch6
/-- This device's maximum. -/
abbrev amM : Memref sig .tc .vmem S8x128 .f32 := Memref.whole cc0_scratch7
/-- Every device's maximum. -/
abbrev axM : Memref sig .tc .vmem S8x8x128 .f32 := Memref.whole cc0_scratch8

/-! ## The rectangles' evidence at a step number -/

theorem inb_recvR (t : Fin 7) : ∀ a, (![t.val, 0, 0] : Fin 3 → Nat) a + S1x512x4096.size a ≤ S7x512x8192.size a := by
  revert t; decide
theorem inb_recvL (t : Fin 7) : ∀ a, (![t.val, 0, 4096] : Fin 3 → Nat) a + S1x512x4096.size a ≤ S7x512x8192.size a := by
  revert t; decide
theorem inb_pc (b h : Fin 2) : ∀ a, (![b.val, h.val, 0, 0] : Fin 4 → Nat) a + S1x1x512x4096.size a ≤ S2x2x512x4096.size a := by
  revert b h; decide
theorem inb_sem (t : Fin 7) : ∀ a, (![t.val] : Fin 1 → Nat) a + S1.size a ≤ S7.size a := by
  revert t; decide

theorem words_recvR (t : Fin 7) :
    (Rect.unit (s := S7x512x8192) ![t.val, 0, 0] S1x512x4096.size (inb_recvR t)).WholeWords (EltTy.packing .bf16) := by
  fin_cases t
  exacts [wordsbf16_S7x512x8192_S1x512x4096_0_0_0, wordsbf16_S7x512x8192_S1x512x4096_1_0_0,
    wordsbf16_S7x512x8192_S1x512x4096_2_0_0, wordsbf16_S7x512x8192_S1x512x4096_3_0_0,
    wordsbf16_S7x512x8192_S1x512x4096_4_0_0, wordsbf16_S7x512x8192_S1x512x4096_5_0_0,
    wordsbf16_S7x512x8192_S1x512x4096_6_0_0]
theorem words_recvL (t : Fin 7) :
    (Rect.unit (s := S7x512x8192) ![t.val, 0, 4096] S1x512x4096.size (inb_recvL t)).WholeWords (EltTy.packing .bf16) := by
  fin_cases t
  exacts [wordsbf16_S7x512x8192_S1x512x4096_0_0_4096, wordsbf16_S7x512x8192_S1x512x4096_1_0_4096,
    wordsbf16_S7x512x8192_S1x512x4096_2_0_4096, wordsbf16_S7x512x8192_S1x512x4096_3_0_4096,
    wordsbf16_S7x512x8192_S1x512x4096_4_0_4096, wordsbf16_S7x512x8192_S1x512x4096_5_0_4096,
    wordsbf16_S7x512x8192_S1x512x4096_6_0_4096]
theorem packed_pc (b h : Fin 2) :
    (Rect.unit (s := S2x2x512x4096) ![b.val, h.val, 0, 0] S1x1x512x4096.size (inb_pc b h)).PackedRows (EltTy.packing .bf16) := by
  fin_cases b <;> fin_cases h
  exacts [packedbf16_S2x2x512x4096_S1x1x512x4096_0_0_0_0, packedbf16_S2x2x512x4096_S1x1x512x4096_0_1_0_0,
    packedbf16_S2x2x512x4096_S1x1x512x4096_1_0_0_0, packedbf16_S2x2x512x4096_S1x1x512x4096_1_1_0_0]

/-! ## The parts of the buffers a block reads or writes -/

/-- The right half of step `t`'s receive area. -/
def recvR (t : Fin 7) : Memref sig .tc .hbm S512x4096 .bf16 :=
  (recvM.slice (Rect.unit (s := S7x512x8192) ![t.val, 0, 0] S1x512x4096.size (inb_recvR t)) (fun _ => rfl)).squeeze S512x4096 squeezes_S1x512x4096_S512x4096
/-- The left half of step `t`'s receive area. -/
def recvL (t : Fin 7) : Memref sig .tc .hbm S512x4096 .bf16 :=
  (recvM.slice (Rect.unit (s := S7x512x8192) ![t.val, 0, 4096] S1x512x4096.size (inb_recvL t)) (fun _ => rfl)).squeeze S512x4096 squeezes_S1x512x4096_S512x4096
/-- The rows and columns of the reduced array from the offset `off`. -/
def yS (off : Fin 2 → Nat) (inb : ∀ a, off a + S512x4096.size a ≤ S4096x8192.size a) : Memref sig .tc .hbm S512x4096 .bf16 :=
  yM.slice (Rect.unit (s := S4096x8192) off S512x4096.size inb) (fun _ => rfl)
/-- The rows and columns of the result from the offset `off`. -/
def outS (off : Fin 2 → Nat) (inb : ∀ a, off a + S256x4096.size a ≤ S4096x8192.size a) : Memref sig .tc .hbm S256x4096 .f32 :=
  outM.slice (Rect.unit (s := S4096x8192) off S256x4096.size inb) (fun _ => rfl)
/-- The slot of the maxima's array at the offset `off`. -/
def axS (off : Fin 3 → Nat) (inb : ∀ a, off a + S1x8x128.size a ≤ S8x8x128.size a) : Memref sig .tc .vmem S8x128 .f32 :=
  (axM.slice (Rect.unit (s := S8x8x128) off S1x8x128.size inb) (fun _ => rfl)).squeeze S8x128 squeezes_S1x8x128_S8x128

theorem wx_recvR (t : Fin 7) : (recvR t).view.WordExact :=
  ((Memref.isWhole_whole main_v1_2).wordExact_slice rfl _ (words_recvR t)).reshape _ _
theorem wx_recvL (t : Fin 7) : (recvL t).view.WordExact :=
  ((Memref.isWhole_whole main_v1_2).wordExact_slice rfl _ (words_recvL t)).reshape _ _

/-- The `t`-th semaphore of an array of seven. -/
def sem7 (a : DmaSems sig S7) (t : Fin 7) : DmaSem sig :=
  ((a.slice (Rect.unit (s := S7) ![t.val] S1.size (inb_sem t))).squeeze S_ squeezes_S1_S_).sem

/-- The devices of the ring: the next one and the one before. -/
def nextD (d : Dev nD) : Dev nD := ⟨k0_dev1 d, k0_dev1_lt d⟩
@[inherit_doc nextD] def prevD (d : Dev nD) : Dev nD := ⟨k0_dev2 d, k0_dev2_lt d⟩

/-! ## The blocks -/

/-- A program of the kernel's body. -/
abbrev PF (F : FTy → Type) [FloatOps F] (α : Type) : Type 1 := Prog (TpuEff nD τ sig (Elt F) Λ₀ .tc) α

/-- One partial product: a block of rows of `x` by half of `w`, into half `h` of slot `b`. -/
def pcompH (b h : Fin 2) (off : Fin 2 → Nat) (inb : ∀ a, off a + S512x512.size a ≤ S4096x512.size a)
    (woff : Fin 2 → Nat) (winb : ∀ a, woff a + S512x4096.size a ≤ S512x8192.size a) : PF F PUnit := do
  let x : Vec F S512x512 .bf16 ← Prog.lift (.load xM (Rect.unit (s := S4096x512) off S512x512.size inb).toLoadRect (View.loadsAt_vmem h_S512x512))
  let w : Vec F S512x4096 .bf16 ← Prog.lift (.load wM (Rect.unit (s := S512x8192) woff S512x4096.size winb).toLoadRect (View.loadsAt_vmem h_S512x4096))
  let _v : Vec F S1x1x512x4096 .bf16 ← Prog.lift (.load pcM (Rect.unit (s := S2x2x512x4096) ![b.val, h.val, 0, 0] S1x1x512x4096.size (inb_pc b h)).toLoadRect (View.loadsAt_vmem h_S1x1x512x4096))
  Prog.lift (.store pcM (Rect.unit (s := S2x2x512x4096) ![b.val, h.val, 0, 0] S1x1x512x4096.size (inb_pc b h)) (k0_pay1 x w) Finset.univ (View.stores_vmem h_S1x1x512x4096 ((Memref.isWhole_whole cc0_scratch0).storeExact_slice rfl _ (packed_pc b h)) (fun _ => rfl)) (.inl rfl))

/-- Both partial products of step `s`, into slot `b`. -/
def pcomp (d : Dev nD) (s : Fin 8) (b : Fin 2) : PF F PUnit := do
  pcompH b 0 (k0_off1 d (BitVec.ofNat 32 s.val)) (k0_off1_inb d s) ![0, 0] inb_S512x8192_S512x4096_0_0
  pcompH b 1 (k0_off2 d (BitVec.ofNat 32 s.val)) (k0_off2_inb d s) ![0, 4096] inb_S512x8192_S512x4096_0_4096

/-- The first partial products go to the send buffers. -/
def rsFill : PF F PUnit := do
  let p : Vec F S1x1x512x4096 .bf16 ← Prog.lift (.load pcM (Rect.unit (s := S2x2x512x4096) ![0, 0, 0, 0] S1x1x512x4096.size inb_S2x2x512x4096_S1x1x512x4096_0_0_0_0).toLoadRect (View.loadsAt_vmem h_S1x1x512x4096))
  let _v : Vec F S512x4096 .bf16 ← Prog.lift (.load svrM (Rect.unit (s := S512x4096) ![0, 0] S512x4096.size inb_S512x4096_S512x4096_0_0).toLoadRect (View.loadsAt_vmem h_S512x4096))
  Prog.lift (.store svrM (Rect.unit (s := S512x4096) ![0, 0] S512x4096.size inb_S512x4096_S512x4096_0_0) (k0_pay4 p) Finset.univ (View.stores_vmem h_S512x4096 ((Memref.isWhole_whole cc0_scratch2).storeExact_slice rfl _ packedbf16_S512x4096_S512x4096_0_0) (fun _ => rfl)) (.inl rfl))
  let p : Vec F S1x1x512x4096 .bf16 ← Prog.lift (.load pcM (Rect.unit (s := S2x2x512x4096) ![0, 1, 0, 0] S1x1x512x4096.size inb_S2x2x512x4096_S1x1x512x4096_0_1_0_0).toLoadRect (View.loadsAt_vmem h_S1x1x512x4096))
  let _v : Vec F S512x4096 .bf16 ← Prog.lift (.load svlM (Rect.unit (s := S512x4096) ![0, 0] S512x4096.size inb_S512x4096_S512x4096_0_0).toLoadRect (View.loadsAt_vmem h_S512x4096))
  Prog.lift (.store svlM (Rect.unit (s := S512x4096) ![0, 0] S512x4096.size inb_S512x4096_S512x4096_0_0) (k0_pay4 p) Finset.univ (View.stores_vmem h_S512x4096 ((Memref.isWhole_whole cc0_scratch4).storeExact_slice rfl _ packedbf16_S512x4096_S512x4096_0_0) (fun _ => rfl)) (.inl rfl))

/-- Both rings' sends of step `t`. -/
def rsSend (d : Dev nD) (t : Fin 7) : PF F PUnit := do
  Prog.lift (.enqueueDma svrM (.remote (Dev.tc (nextD d)) (recvR t) (.dma (sem7 cc0_scratch9 t))) (.dma (sem7 cc0_scratch10 t)) (Memref.isWhole_whole _).wordExact (wx_recvR t) ⟨⟨rfl, Or.inl rfl⟩, trivial⟩)
  Prog.lift (.enqueueDma svlM (.remote (Dev.tc (prevD d)) (recvL t) (.dma (sem7 cc0_scratch13 t))) (.dma (sem7 cc0_scratch14 t)) (Memref.isWhole_whole _).wordExact (wx_recvL t) ⟨⟨rfl, Or.inl rfl⟩, trivial⟩)

/-- The waits for both rings' transfers of step `t`: each ring's send, then its receive. -/
def rsWait (t : Fin 7) : PF F PUnit := do
  Prog.lift (.waitDma2 (sem7 cc0_scratch9 t) (recvR t) svrM (wx_recvR t) (Memref.isWhole_whole _).wordExact)
  Prog.lift (.waitDma2 (sem7 cc0_scratch10 t) svrM (recvR t) (Memref.isWhole_whole _).wordExact (wx_recvR t))
  Prog.lift (.waitDma2 (sem7 cc0_scratch13 t) (recvL t) svlM (wx_recvL t) (Memref.isWhole_whole _).wordExact)
  Prog.lift (.waitDma2 (sem7 cc0_scratch14 t) svlM (recvL t) (Memref.isWhole_whole _).wordExact (wx_recvL t))

/-- A copy within the device from HBM to a 512 by 4096 buffer, waited for. -/
def copyIn (src : Memref sig .tc .hbm S512x4096 .bf16) (hs : src.view.WordExact) (b : Memref sig .tc .vmem S512x4096 .bf16) (hb : b.view.WordExact) : PF F PUnit := do
  Prog.lift (.enqueueDma src (.here b) (.dma (SemArray.sem cc0_scratch19)) hs hb ⟨Or.inl rfl, trivial⟩)
  Prog.lift (.waitDma2 (SemArray.sem cc0_scratch19) src b hs hb)

/-- A copy within the device from a 512 by 4096 buffer to HBM, waited for. -/
def copyOut (b : Memref sig .tc .vmem S512x4096 .bf16) (hb : b.view.WordExact) (dst : Memref sig .tc .hbm S512x4096 .bf16) (hd : dst.view.WordExact) : PF F PUnit := do
  Prog.lift (.enqueueDma b (.here dst) (.dma (SemArray.sem cc0_scratch19)) hb hd ⟨Or.inl rfl, trivial⟩)
  Prog.lift (.waitDma2 (SemArray.sem cc0_scratch19) b dst hb hd)

/-- The received partial sums are added to slot `b`'s partial products, into the send buffers. -/
def rsAdd (b : Fin 2) : PF F PUnit := do
  let p : Vec F S1x1x512x4096 .bf16 ← Prog.lift (.load pcM (Rect.unit (s := S2x2x512x4096) ![b.val, 0, 0, 0] S1x1x512x4096.size (inb_pc b 0)).toLoadRect (View.loadsAt_vmem h_S1x1x512x4096))
  let v : Vec F S512x4096 .bf16 ← Prog.lift (.load rvrM (Rect.unit (s := S512x4096) ![0, 0] S512x4096.size inb_S512x4096_S512x4096_0_0).toLoadRect (View.loadsAt_vmem h_S512x4096))
  let _v : Vec F S512x4096 .bf16 ← Prog.lift (.load svrM (Rect.unit (s := S512x4096) ![0, 0] S512x4096.size inb_S512x4096_S512x4096_0_0).toLoadRect (View.loadsAt_vmem h_S512x4096))
  Prog.lift (.store svrM (Rect.unit (s := S512x4096) ![0, 0] S512x4096.size inb_S512x4096_S512x4096_0_0) (k0_pay9 p v) Finset.univ (View.stores_vmem h_S512x4096 ((Memref.isWhole_whole cc0_scratch2).storeExact_slice rfl _ packedbf16_S512x4096_S512x4096_0_0) (fun _ => rfl)) (.inl rfl))
  let p : Vec F S1x1x512x4096 .bf16 ← Prog.lift (.load pcM (Rect.unit (s := S2x2x512x4096) ![b.val, 1, 0, 0] S1x1x512x4096.size (inb_pc b 1)).toLoadRect (View.loadsAt_vmem h_S1x1x512x4096))
  let v : Vec F S512x4096 .bf16 ← Prog.lift (.load rvlM (Rect.unit (s := S512x4096) ![0, 0] S512x4096.size inb_S512x4096_S512x4096_0_0).toLoadRect (View.loadsAt_vmem h_S512x4096))
  let _v : Vec F S512x4096 .bf16 ← Prog.lift (.load svlM (Rect.unit (s := S512x4096) ![0, 0] S512x4096.size inb_S512x4096_S512x4096_0_0).toLoadRect (View.loadsAt_vmem h_S512x4096))
  Prog.lift (.store svlM (Rect.unit (s := S512x4096) ![0, 0] S512x4096.size inb_S512x4096_S512x4096_0_0) (k0_pay9 p v) Finset.univ (View.stores_vmem h_S512x4096 ((Memref.isWhole_whole cc0_scratch4).storeExact_slice rfl _ packedbf16_S512x4096_S512x4096_0_0) (fun _ => rfl)) (.inl rfl))

/-- The end of step `t`: its transfers awaited, what came in read and added to slot `b`'s products. -/
def rsRecv (t : Fin 7) (b : Fin 2) : PF F PUnit := do
  rsWait t
  copyIn (recvR t) (wx_recvR t) rvrM (Memref.isWhole_whole _).wordExact
  copyIn (recvL t) (wx_recvL t) rvlM (Memref.isWhole_whole _).wordExact
  rsAdd b

/-- One step of the reduction: step `t` ends, step `t + 1`'s sums leave, and the next products are computed. -/
def rsStep (d : Dev nD) (t t' : Fin 7) (s : Fin 8) (b b' : Fin 2) : PF F PUnit := do
  rsRecv t b
  rsSend d t'
  pcomp d s b'

/-- The reduction. -/
def rsAll (d : Dev nD) : PF F PUnit := do
  pcomp d 0 0
  rsFill
  rsSend d 0
  pcomp d 1 1
  rsStep d 0 1 2 1 0
  rsStep d 1 2 3 0 1
  rsStep d 2 3 4 1 0
  rsStep d 3 4 5 0 1
  rsStep d 4 5 6 1 0
  rsStep d 5 6 7 0 1
  rsRecv 6 1

/-- This device's reduced halves go to HBM, and the maximum of their magnitudes is spread over a buffer. -/
def own (d : Dev nD) : PF F (F .f32) := do
  copyOut svrM (Memref.isWhole_whole _).wordExact (yS (k0_off3 d) (k0_off3_inb d)) ((Memref.isWhole_whole main_v1_1).wordExact_slice rfl _ (k0_off3_wordsbf16 d))
  copyOut svlM (Memref.isWhole_whole _).wordExact (yS (k0_off4 d) (k0_off4_inb d)) ((Memref.isWhole_whole main_v1_1).wordExact_slice rfl _ (k0_off4_wordsbf16 d))
  let a : Vec F S512x4096 .bf16 ← Prog.lift (.load svrM (Rect.unit (s := S512x4096) ![0, 0] S512x4096.size inb_S512x4096_S512x4096_0_0).toLoadRect (View.loadsAt_vmem h_S512x4096))
  let b : Vec F S512x4096 .bf16 ← Prog.lift (.load svlM (Rect.unit (s := S512x4096) ![0, 0] S512x4096.size inb_S512x4096_S512x4096_0_0).toLoadRect (View.loadsAt_vmem h_S512x4096))
  let _v : Vec F S8x128 .f32 ← Prog.lift (.load amM (Rect.unit (s := S8x128) ![0, 0] S8x128.size inb_S8x128_S8x128_0_0).toLoadRect (View.loadsAt_vmem h_S8x128))
  Prog.lift (.store amM (Rect.unit (s := S8x128) ![0, 0] S8x128.size inb_S8x128_S8x128_0_0) (k0_pay42 a b) Finset.univ (View.stores_vmem_bits_univ h_S8x128 rfl) (.inl rfl))
  pure (k0_pay41 a b)

/-- The maximum is sent to the device `dev`, on the `k`-th pair of semaphores. -/
def axSend (d : Dev nD) (k : Fin 7) (dev : Dev nD) : PF F PUnit :=
  Prog.lift (.enqueueDma amM (.remote (Dev.tc dev) (axS (k0_off5 d) (k0_off5_inb d)) (.dma (sem7 cc0_scratch17 k))) (.dma (sem7 cc0_scratch18 k)) (Memref.isWhole_whole _).wordExact ((View.wordExact_bits rfl).reshape _ _) ⟨⟨rfl, Or.inl rfl⟩, trivial⟩)

/-- The larger of `m` and everything in a slot. -/
def mx (m : F .f32) (v : Vec F S1x8x128 .f32) : F .f32 :=
  Scalar.maximumf m (extractAt ![0, 0, 0, 0] (shapeCast S1x1x1x1 (multiReduction .maximumf [1, 2, 3] S1 (shapeCast S1x1x8x128 v shapeCasts_S1x8x128_S1x1x8x128) 0xFF800000#32 reduces_S1x1x8x128_S1 (.inl rfl) rfl) shapeCasts_S1_S1x1x1x1) inpos_S1x1x1x1_p0_0_0_0)

/-- The `k`-th incoming maximum is awaited and read. -/
def axRecv (d : Dev nD) (k : Fin 7) (m : F .f32) : PF F (F .f32) := do
  Prog.lift (.waitDma2 (sem7 cc0_scratch18 k) amM (axS (k0_off8 d (BitVec.ofNat 32 (1 + k.val))) (k0_off8_inb d k)) (Memref.isWhole_whole _).wordExact ((View.wordExact_bits rfl).reshape _ _))
  let v : Vec F S1x8x128 .f32 ← Prog.lift (.load axM (Rect.unit (s := S8x8x128) (k0_off9 d (BitVec.ofNat 32 (1 + k.val))) S1x8x128.size (k0_off9_inb d k)).toLoadRect (View.loadsAt_vmem h_S1x8x128))
  pure (mx m v)

/-- The end of the `k`-th send of the maximum. -/
def axDone (d : Dev nD) (k : Fin 7) : PF F PUnit :=
  Prog.lift (.waitDma2 (sem7 cc0_scratch17 k) (axS (k0_off5 d) (k0_off5_inb d)) amM ((View.wordExact_bits rfl).reshape _ _) (Memref.isWhole_whole _).wordExact)

/-- The chunk of the right ring's `t`-th forwarding. -/
def agR (d : Dev nD) (t : Fin 8) : Memref sig .tc .hbm S512x4096 .bf16 := yS (k0_off6 d (BitVec.ofNat 32 t.val)) (k0_off6_inb d t)
/-- The chunk of the left ring's `t`-th forwarding. -/
def agL (d : Dev nD) (t : Fin 8) : Memref sig .tc .hbm S512x4096 .bf16 := yS (k0_off7 d (BitVec.ofNat 32 t.val)) (k0_off7_inb d t)
theorem wx_agR (d : Dev nD) (t : Fin 8) : (agR d t).view.WordExact :=
  (Memref.isWhole_whole main_v1_1).wordExact_slice rfl _ (k0_off6_wordsbf16 d t)
theorem wx_agL (d : Dev nD) (t : Fin 8) : (agL d t).view.WordExact :=
  (Memref.isWhole_whole main_v1_1).wordExact_slice rfl _ (k0_off7_wordsbf16 d t)

/-- Both rings' forwarding of step `t`. -/
def agSend (d : Dev nD) (t : Fin 7) : PF F PUnit := do
  Prog.lift (.enqueueDma (agR d t.castSucc) (.remote (Dev.tc (nextD d)) (agR d t.castSucc) (.dma (sem7 cc0_scratch11 t))) (.dma (sem7 cc0_scratch12 t)) (wx_agR d _) (wx_agR d _) ⟨⟨rfl, Or.inl rfl⟩, trivial⟩)
  Prog.lift (.enqueueDma (agL d t.castSucc) (.remote (Dev.tc (prevD d)) (agL d t.castSucc) (.dma (sem7 cc0_scratch15 t))) (.dma (sem7 cc0_scratch16 t)) (wx_agL d _) (wx_agL d _) ⟨⟨rfl, Or.inl rfl⟩, trivial⟩)

/-- The waits for step `t`'s forwarding. -/
def agWait (d : Dev nD) (t : Fin 7) : PF F PUnit := do
  Prog.lift (.waitDma2 (sem7 cc0_scratch11 t) (agR d t.castSucc) (agR d t.castSucc) (wx_agR d _) (wx_agR d _))
  Prog.lift (.waitDma2 (sem7 cc0_scratch12 t) (agR d t.castSucc) (agR d t.castSucc) (wx_agR d _) (wx_agR d _))
  Prog.lift (.waitDma2 (sem7 cc0_scratch15 t) (agL d t.castSucc) (agL d t.castSucc) (wx_agL d _) (wx_agL d _))
  Prog.lift (.waitDma2 (sem7 cc0_scratch16 t) (agL d t.castSucc) (agL d t.castSucc) (wx_agL d _) (wx_agL d _))

/-- The two copies of quantised rows to the result, started together. -/
def qCopy (o : Memref sig .tc .hbm S256x4096 .f32) (o' : Memref sig .tc .hbm S256x4096 .f32) (ho : o.view.WordExact) (ho' : o'.view.WordExact) : PF F PUnit := do
  Prog.lift (.enqueueDma qvrM (.here o) (.dma (SemArray.sem ((SemArray.slice cc0_scratch20 (Rect.unit (s := S2) ![0] S1.size inb_S2_S1_0)).squeeze S_ squeezes_S1_S_))) (Memref.isWhole_whole _).wordExact ho ⟨Or.inl rfl, trivial⟩)
  Prog.lift (.enqueueDma qvlM (.here o') (.dma (SemArray.sem ((SemArray.slice cc0_scratch20 (Rect.unit (s := S2) ![1] S1.size inb_S2_S1_1)).squeeze S_ squeezes_S1_S_))) (Memref.isWhole_whole _).wordExact ho' ⟨Or.inl rfl, trivial⟩)
  Prog.lift (.waitDma2 (SemArray.sem ((SemArray.slice cc0_scratch20 (Rect.unit (s := S2) ![0] S1.size inb_S2_S1_0)).squeeze S_ squeezes_S1_S_)) qvrM o (Memref.isWhole_whole _).wordExact ho)
  Prog.lift (.waitDma2 (SemArray.sem ((SemArray.slice cc0_scratch20 (Rect.unit (s := S2) ![1] S1.size inb_S2_S1_1)).squeeze S_ squeezes_S1_S_)) qvlM o' (Memref.isWhole_whole _).wordExact ho')

/-- Half the rows of two chunks are quantised and copied to the result. -/
def quantH (rM lM : Memref sig .tc .vmem S512x4096 .bf16) (roff : Fin 2 → Nat) (rinb : ∀ a, roff a + S256x4096.size a ≤ S512x4096.size a)
    (o o' : Memref sig .tc .hbm S256x4096 .f32) (ho : o.view.WordExact) (ho' : o'.view.WordExact) (sc ri : F .f32) : PF F PUnit := do
  let a : Vec F S256x4096 .bf16 ← Prog.lift (.load rM (Rect.unit (s := S512x4096) roff S256x4096.size rinb).toLoadRect (View.loadsAt_vmem h_S256x4096))
  let _v : Vec F S256x4096 .f32 ← Prog.lift (.load qvrM (Rect.unit (s := S256x4096) ![0, 0] S256x4096.size inb_S256x4096_S256x4096_0_0).toLoadRect (View.loadsAt_vmem h_S256x4096))
  Prog.lift (.store qvrM (Rect.unit (s := S256x4096) ![0, 0] S256x4096.size inb_S256x4096_S256x4096_0_0) (k0_pay52 sc ri a) Finset.univ (View.stores_vmem_bits_univ h_S256x4096 rfl) (.inl rfl))
  let b : Vec F S256x4096 .bf16 ← Prog.lift (.load lM (Rect.unit (s := S512x4096) roff S256x4096.size rinb).toLoadRect (View.loadsAt_vmem h_S256x4096))
  let _v : Vec F S256x4096 .f32 ← Prog.lift (.load qvlM (Rect.unit (s := S256x4096) ![0, 0] S256x4096.size inb_S256x4096_S256x4096_0_0).toLoadRect (View.loadsAt_vmem h_S256x4096))
  Prog.lift (.store qvlM (Rect.unit (s := S256x4096) ![0, 0] S256x4096.size inb_S256x4096_S256x4096_0_0) (k0_pay52 sc ri b) Finset.univ (View.stores_vmem_bits_univ h_S256x4096 rfl) (.inl rfl))
  qCopy o o' ho ho'

/-- One step of the gathering: step `t` ends, the chunks that came are sent on (but for the last ones), read, quantised
    and copied to the result. -/
def agStep (d : Dev nD) (t : Fin 7) (nxt : PF F PUnit) (sc ri : F .f32) : PF F PUnit := do
  agWait d t
  nxt
  copyIn (agR d t.succ) (wx_agR d _) rvrM (Memref.isWhole_whole _).wordExact
  copyIn (agL d t.succ) (wx_agL d _) rvlM (Memref.isWhole_whole _).wordExact
  quantH rvrM rvlM ![0, 0] inb_S512x4096_S256x4096_0_0 (outS (k0_off12 d (BitVec.ofNat 32 (1 + t.val)) 0#32) (k0_off12_inb d t 0)) (outS (k0_off13 d (BitVec.ofNat 32 (1 + t.val)) 0#32) (k0_off13_inb d t 0)) (View.wordExact_bits rfl) (View.wordExact_bits rfl) sc ri
  quantH rvrM rvlM ![256, 0] inb_S512x4096_S256x4096_256_0 (outS (k0_off12 d (BitVec.ofNat 32 (1 + t.val)) 256#32) (k0_off12_inb d t 1)) (outS (k0_off13 d (BitVec.ofNat 32 (1 + t.val)) 256#32) (k0_off13_inb d t 1)) (View.wordExact_bits rfl) (View.wordExact_bits rfl) sc ri

/-- The scale: the maximum over 127. -/
def scaleOf (m : F .f32) : F .f32 := Scalar.divf m (Scalar.ofBits .f32 0x42FE0000#32)
/-- The scale's reciprocal. -/
def rinvOf (s : F .f32) : F .f32 := Scalar.divf (Scalar.ofBits .f32 0x3F800000#32) s

/-- The seven sends of the maximum. -/
def axSends (d : Dev nD) : PF F PUnit := do
  axSend d 0 ⟨k0_dev15 d, k0_dev15_lt d⟩
  axSend d 1 ⟨k0_dev16 d, k0_dev16_lt d⟩
  axSend d 2 ⟨k0_dev17 d, k0_dev17_lt d⟩
  axSend d 3 ⟨k0_dev18 d, k0_dev18_lt d⟩
  axSend d 4 ⟨k0_dev19 d, k0_dev19_lt d⟩
  axSend d 5 ⟨k0_dev20 d, k0_dev20_lt d⟩
  axSend d 6 ⟨k0_dev21 d, k0_dev21_lt d⟩

/-- The seven other maxima come in. -/
def axRecvs (d : Dev nD) (m : F .f32) : PF F (F .f32) := do
  let m ← axRecv d 0 m
  let m ← axRecv d 1 m
  let m ← axRecv d 2 m
  let m ← axRecv d 3 m
  let m ← axRecv d 4 m
  let m ← axRecv d 5 m
  axRecv d 6 m

/-- The gathering. -/
def agAll (d : Dev nD) (sc ri : F .f32) : PF F PUnit := do
  quantH svrM svlM ![0, 0] inb_S512x4096_S256x4096_0_0 (outS (k0_off10 d 0#32) (k0_off10_inb d 0)) (outS (k0_off11 d 0#32) (k0_off11_inb d 0)) (View.wordExact_bits rfl) (View.wordExact_bits rfl) sc ri
  quantH svrM svlM ![256, 0] inb_S512x4096_S256x4096_256_0 (outS (k0_off10 d 256#32) (k0_off10_inb d 1)) (outS (k0_off11 d 256#32) (k0_off11_inb d 1)) (View.wordExact_bits rfl) (View.wordExact_bits rfl) sc ri
  agStep d 0 (agSend d 1) sc ri
  agStep d 1 (agSend d 2) sc ri
  agStep d 2 (agSend d 3) sc ri
  agStep d 3 (agSend d 4) sc ri
  agStep d 4 (agSend d 5) sc ri
  agStep d 5 (agSend d 6) sc ri
  agStep d 6 (pure ⟨⟩) sc ri

/-- The ends of the seven sends of the maximum. -/
def axDones (d : Dev nD) : PF F PUnit := do
  axDone d 0
  axDone d 1
  axDone d 2
  axDone d 3
  axDone d 4
  axDone d 5
  axDone d 6

/-- The body on device `d`. -/
def prog (d : Dev nD) : PF F PUnit := do
  rsAll d
  let m ← own d
  axSends d
  agSend d 0
  let m ← axRecvs d m
  agAll d (scaleOf m) (rinvOf (scaleOf m))
  axDones d

end Cert.KernelIdeal.Own

end
-- ==== Proof.Rules.lean ====
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.Tactic

@[expose] public section

noncomputable section

/-! # Steps of a device, over buffers owned at their contents

Each rule takes the parts of buffers an operation touches, owned at what they hold, and hands them back at what they hold
afterwards. -/

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

/-! ## The resources -/

/-- The rounds of the kernel's own semaphores. -/
abbrev UB : Type := URounds (GSem nD τ sig) Unit
/-- The pipeline's rounds, the kernel's own rounds, and the counters of copies within a device. -/
abbrev UU : Type := UR sig nD τ × (UB × Counters)
/-- The resources a device's run is proved in. -/
abbrev MM (F : FTy → Type) [FloatOps F] : Type _ := MT nD τ sig Unit (Elt F) ℕ UU ℕ
/-- The propositions over them. -/
abbrev PP (F : FTy → Type) [FloatOps F] := sProp (MM F)
/-- Where the pipeline's rounds lie. -/
abbrev EP : Emb (UR sig nD τ) (MM F) := embL
/-- Where the kernel's own rounds lie. -/
abbrev ER : Emb UB (MM F) := (Emb.inl : Emb UB (UB × Counters)).trans embR
/-- Where the counters lie. -/
abbrev EC : UEmb Counters (MM F) := countersEmb (U := UU)

abbrev 𝒱₀ : Variants := Variants.none

/-- Device `c` runs `p` to a state in which `Q` holds of the result. -/
abbrev WP (c : Dev nD) {α : Type} (p : PF F α) (Q : α → PP F) : PP F :=
  wp frame (wpE (defs₀ (F := F)) 𝒱₀ (c : Thread nD τ) none) Set.univ p Q

/-- Device `c` owns `m` outright, holding `X`. -/
abbrev own1 (c : Dev nD) {sp : Space} {s : Shape} {e : EltTy} (m : Memref sig .tc sp s e) (X : s.Idx → Elt F e) : PP F :=
  ownsTc c m fullShare X
/-- Device `c` owns `m` outright, whatever it holds. -/
abbrev own_ (c : Dev nD) {sp : Space} {s : Shape} {e : EltTy} (m : Memref sig .tc sp s e) : PP F :=
  iprop(∃ X, own1 (F := F) c m X)
/-- What device `c` still owes, whatever it has waited for. -/
abbrev ow (c : Dev nD) (O : CellTallies nD τ sig Unit) : PP F := iprop(∃ W, owes (c : Thread nD τ) O W)

/-! ## Loads and stores -/

theorem slice_sub {κ : Kind} {sp : Space} {s : Shape} {e : EltTy} (v : View sig κ sp s e) (r : Rect s) : (v.slice r).set ⊆ v.set := by
  rw [View.set_slice, View.set]; exact Finset.map_subset_map.mpr (Finset.subset_univ _)

/-- What a load at a rectangle reads, when the squeezed rectangle holds `X`. -/
abbrev unsq {s s' : Shape} {α : Type} (hq : s.Squeezes s') (X : s'.Idx → α) : s.Idx → α :=
  fun j => X ((Shape.reshapeEquiv hq.numel_eq).symm j)

theorem ld {c : Dev nD} {cs : CoreSpace} {s : Shape} {e : EltTy} {α : Type} {m : Memref sig .tc cs s e} {r : Rect s} {hl : m.view.LoadsAt r}
    {k : (r.shape.Idx → Elt F e) → PF F α} {Q : α → PP F} {q : PosShare TreeShare} {X : s.Idx → Elt F e} :
    ownsTc c m q X ⊢ iprop((ownsTc c m q X -∗ WP c (k fun j => X (r.emb j)) Q) -∗ WP c (Prog.lift (.load m r hl) >>= k) Q) := by
  unfold ownsTc owns
  iintro ⟨%f, %hf, H⟩ Hk
  iapply (wp_load_rect 𝒱₀ (c : Thread nD τ) none Set.univ (m := m) (r := r) (hl := hl) (k := k) (S := m.view.set) (q := q) (f := f)
    (slice_sub m.view r)) $$ [H]
  · iexact H
  iintro H
  subst hf
  iapply Hk
  iexists f
  isplitr
  · ipureintro; rfl
  · iexact H

/-- A load of a rectangle whose shape is covered, one squeezed axis away, by an owned memref. -/
theorem ldSq {c : Dev nD} {cs : CoreSpace} {s s' : Shape} {e : EltTy} {α : Type} {m : Memref sig .tc cs s e} {r : Rect s} {hr : ∀ a, r.stride a = 1}
    {hq : r.shape.Squeezes s'} {hl : m.view.LoadsAt r}
    {k : (r.shape.Idx → Elt F e) → PF F α} {Q : α → PP F} {q : PosShare TreeShare} {X : s'.Idx → Elt F e} :
    ownsTc c ((m.slice r hr).squeeze s' hq) q X
      ⊢ iprop((ownsTc c ((m.slice r hr).squeeze s' hq) q X -∗ WP c (k (unsq hq X)) Q)
        -∗ WP c (Prog.lift (.load m r hl) >>= k) Q) := by
  unfold ownsTc owns
  iintro ⟨%f, %hf, H⟩ Hk
  iapply (wp_load_rect 𝒱₀ (c : Thread nD τ) none Set.univ (m := m) (r := r) (hl := hl) (k := k) (S := (m.view.slice r).set) (q := q) (f := f)
    subset_rfl) $$ [H]
  · ihave H2 := (Entails.of_eq (congrArg (fun S => ((m.view.slice r).loc (c : Thread nD τ) ↦[S]{q} f : PP F))
      (View.set_reshape (v := m.view.slice r) (s' := s') hq.numel_eq))) $$ H
    iexact H2
  iintro H
  subst hf
  have hr : (m.access r).read (Elt F) f = unsq hq (View.read (Elt F) ((m.slice r hr).squeeze s' hq).view f) := by
    funext j
    show (m.view.slice r).read (Elt F) f j = ((m.view.slice r).reshape s' hq.numel_eq).read (Elt F) f _
    rw [View.read_apply, View.read_apply, View.emb_reshape]
    simp
  rw [hr]
  iapply Hk
  iexists f
  isplitr
  · ipureintro; rfl
  · ihave H2 := (Entails.of_eq (congrArg (fun S => ((m.view.slice r).loc (c : Thread nD τ) ↦[S]{q} f : PP F))
      (View.set_reshape (v := m.view.slice r) (s' := s') hq.numel_eq).symm)) $$ H
    iexact H2

theorem st {c : Dev nD} {cs : CoreSpace} {s : Shape} {e : EltTy} {α : Type} {m : Memref sig .tc cs s e} {r : Rect s}
    {w : r.shape.Idx → Elt F e} {hx : (m.access r).Stores Finset.univ} {hm : (Finset.univ : Finset r.shape.Idx) = Finset.univ ∨ ∀ a, r.stride a = 1}
    {k : PUnit → PF F α} {Q : α → PP F} {X : s.Idx → Elt F e} :
    own1 c m X ⊢ iprop((own1 c m (r.overlay X w) -∗ WP c (k ⟨⟩) Q) -∗ WP c (Prog.lift (.store m r w Finset.univ hx hm) >>= k) Q) := by
  unfold own1 ownsTc owns
  iintro ⟨%f, %hf, H⟩ Hk
  iapply (wp_store 𝒱₀ (c : Thread nD τ) none Set.univ (m := m) (r := r) (w := w) (hx := hx) (hm := hm) (k := k) (S := m.view.set) (f := f)
    (slice_sub m.view r)) $$ [H]
  · iexact H
  iintro H
  iapply Hk
  iexists _
  isplitr
  · ipureintro
    subst hf
    funext j
    by_cases hj : j ∈ r.set
    · obtain ⟨i, -, rfl⟩ := Finset.mem_map.mp (by rw [← Rect.map_emb_univ] at hj; exact hj)
      rw [Rect.overlay_emb]
      exact View.read_slice_write_emb r f w (Finset.mem_univ i)
    · rw [Rect.overlay_of_not_mem _ _ _ hj]
      exact View.read_slice_write_of_not_mem r f w Finset.univ (by rw [Rect.map_emb_univ]; exact hj)
  · iexact H

/-! ## Copies within a device -/

/-- A copy within device `c` from `src` to `dst`, under way on the semaphore `sm`: it ends with both holding `X`. -/
def flying (c : Dev nD) (sm : DmaSem sig) (N : ℕ) {sp sp' : Space} {s : Shape} {e : EltTy} (src : Memref sig .tc sp s e) (q : PosShare TreeShare)
    (X : s.Idx → Elt F e) (dst : Memref sig .tc sp' s e) : PP F :=
  iprop(∃ D, Transfers.Flight EC (c : Thread nD τ) (.dma sm) () N D ∗ □ (D -∗ (ownsTc c src q X ∗ own1 c dst X)))

theorem startCopy {c : Dev nD} {sp sp' : Space} {s : Shape} {e : EltTy} {α : Type} {src : Memref sig .tc sp s e} {dst : Memref sig .tc sp' s e}
    {sm : DmaSem sig} {hsrc : src.view.WordExact} {hdst : dst.view.WordExact} {hsem : DmaTarget.Typed (nD := nD) (τ := τ) (p := .tc) sp (.dma sm) (.here dst)}
    {k : PUnit → PF F α} {Q : α → PP F} {q : PosShare TreeShare} {X : s.Idx → Elt F e} (N : ℕ) (hN : dst.view.amount (.dma sm) = N) (hN0 : 0 < N) :
    iprop(ownsTc c src q X ∗ own_ c dst ∗ semVal ((c : Thread nD τ), .dma sm) 0)
      ⊢ iprop((flying c sm N src q X dst -∗ WP c (k ⟨⟩) Q) -∗ WP c (Prog.lift (.enqueueDma src (.here dst) (.dma sm) hsrc hdst hsem) >>= k) Q) := by
  unfold flying own_ own1 ownsTc owns
  iintro ⟨⟨%fs, %hf, Hs⟩, ⟨%Y, %fd, -, Hd⟩, Hv⟩ Hk
  iapply (Transfers.wp_dmaLocal EC 𝒱₀ (c : Thread nD τ) none (src := src) (dst := dst) (sm := .dma sm) (k := k) (fs := fs) (fd := fd) (q := q)
    () N hN hN0 subset_rfl) $$ [Hs Hd Hv]
  · isplitl [Hs]; · iexact Hs
    isplitl [Hd]; · iexact Hd
    iexact Hv
  iintro H
  iapply Hk
  iexists _
  isplitl [H]; · iexact H
  imodintro
  iintro ⟨Hd, Hs⟩
  isplitl [Hs]
  · iexists fs; isplitr; · ipureintro; exact hf
    iexact Hs
  · iexists (dst.view.write (Elt F) fd (src.view.read (Elt F) fs) Finset.univ); isplitr
    · ipureintro; exact (View.read_write_univ _ _).trans hf
    iexact Hd

theorem endCopy {c : Dev nD} {sp sp' : Space} {s : Shape} {e : EltTy} {α : Type} {src : Memref sig .tc sp s e} {dst : Memref sig .tc sp' s e}
    {sm : DmaSem sig} {hsrc : src.view.WordExact} {hdst : dst.view.WordExact}
    {k : PUnit → PF F α} {Q : α → PP F} {q : PosShare TreeShare} {X : s.Idx → Elt F e} (N : ℕ) (hN : dst.view.dmaCredit = N) {O : CellTallies nD τ sig Unit} :
    iprop(flying c sm N src q X dst ∗ ow c O ∗ MayWait (c : Thread nD τ) (.dma sm) () O)
      ⊢ iprop(((ownsTc c src q X ∗ own1 c dst X ∗ semVal ((c : Thread nD τ), .dma sm) 0 ∗ ow c O) -∗ WP c (k ⟨⟩) Q)
        -∗ WP c (Prog.lift (.waitDma2 sm src dst hsrc hdst) >>= k) Q) := by
  unfold flying ow
  iintro ⟨⟨%D, HF, #HD⟩, ⟨%W, Ho⟩, HM⟩ Hk
  iapply (Transfers.wp_waitLocalO EC 𝒱₀ (c : Thread nD τ) none (k := k) () hN) $$ [HF Ho HM]
  · isplitl [HF]; · iexact HF
    isplitl [Ho]; · iexact Ho
    iexact HM
  iintro ⟨Hd, Hv, Ho⟩
  ihave H := HD $$ Hd
  icases H with ⟨Hs, Hd⟩
  iapply Hk
  isplitl [Hs]; · iexact Hs
  isplitl [Hd]; · iexact Hd
  isplitl [Hv]; · iexact Hv
  iexists _; iexact Ho

end Cert.KernelIdeal.Own

end
-- ==== Proof.Sched.lean ====
module

public import proofs.«01_k».proof.Proof.Rules
public import Idealize.ShloMosaic.Lib.Rounds

@[expose] public section

noncomputable section

/-! # What the semaphores hand over

Seventy semaphores of each device count the transfers between devices: ten kinds of seven. Each is counted up once and
awaited once; what its one transfer hands to the device that waits is its `pay`. -/

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

/-! ## The ring -/

/-- The device `n` places after `c` on the ring. -/
def rot (c : Dev nD) (n : ℕ) : Dev nD := ⟨(c.val + n) % 8, Nat.mod_lt _ (by decide)⟩
theorem rot_val (c : Dev nD) (n : ℕ) : (rot c n).val = (c.val + n) % 8 := rfl
theorem rot_rot (c : Dev nD) (a b : ℕ) : rot (rot c a) b = rot c (a + b) := Fin.ext (by simp only [rot_val]; omega)
theorem rot_eq (c : Dev nD) {a b : ℕ} (h : a % 8 = b % 8) : rot c a = rot c b := Fin.ext (by simp only [rot_val]; omega)
theorem rot_self (c : Dev nD) {a : ℕ} (h : a % 8 = 0) : rot c a = c := Fin.ext (by have h8 : c.val < 8 := c.isLt; simp only [rot_val]; omega)
theorem next_eq (c : Dev nD) : nextD c = rot c 1 := Fin.ext (k0_dev1_eq c)
theorem prev_eq (c : Dev nD) : prevD c = rot c 7 := Fin.ext (k0_dev2_eq c)

/-! ## The parts of the buffers, by chunk -/

theorem inb_yC (j : Dev nD) (h : Fin 2) : ∀ a, (![512 * j.val, 4096 * h.val] : Fin 2 → Nat) a + S512x4096.size a ≤ S4096x8192.size a := by
  revert j h; decide
/-- Half `h` of chunk `j` of the reduced array. -/
def yC (j : Dev nD) (h : Fin 2) : Memref sig .tc .hbm S512x4096 .bf16 := yS ![512 * j.val, 4096 * h.val] (inb_yC j h)
theorem inb_axC (j : Dev nD) : ∀ a, (![j.val, 0, 0] : Fin 3 → Nat) a + S1x8x128.size a ≤ S8x8x128.size a := by
  revert j; decide
/-- The slot of device `j` in the maxima's array. -/
def axC (j : Dev nD) : Memref sig .tc .vmem S8x128 .f32 := axS ![j.val, 0, 0] (inb_axC j)
theorem inb_outC (j : Dev nD) (b h : Fin 2) : ∀ a, (![512 * j.val + 256 * b.val, 4096 * h.val] : Fin 2 → Nat) a + S256x4096.size a ≤ S4096x8192.size a := by
  revert j b h; decide
/-- Rows half `b` of half `h` of chunk `j` of the result. -/
def outC (j : Dev nD) (b h : Fin 2) : Memref sig .tc .hbm S256x4096 .f32 := outS ![512 * j.val + 256 * b.val, 4096 * h.val] (inb_outC j b h)

theorem yS_congr {off off' : Fin 2 → Nat} (h : off = off') (i i') : yS off i = yS off' i' := by subst h; rfl
theorem axS_congr {off off' : Fin 3 → Nat} (h : off = off') (i i') : axS off i = axS off' i' := by subst h; rfl
theorem outS_congr {off off' : Fin 2 → Nat} (h : off = off') (i i') : outS off i = outS off' i' := by subst h; rfl

theorem agR_eq (c : Dev nD) (t : Fin 8) : agR c t = yC (rot c (8 - t.val)) 0 :=
  yS_congr ((k0_off6_eq c t).trans (by rw [rot_val, show (c.val + 16 - t.val) % 8 = (c.val + (8 - t.val)) % 8 by have := t.isLt; omega]; rfl)) _ _
theorem agL_eq (c : Dev nD) (t : Fin 8) : agL c t = yC (rot c t.val) 1 :=
  yS_congr ((k0_off7_eq c t).trans rfl) _ _
theorem y3_eq (c : Dev nD) : yS (k0_off3 c) (k0_off3_inb c) = yC c 0 := yS_congr (k0_off3_eq c) _ _
theorem y4_eq (c : Dev nD) : yS (k0_off4 c) (k0_off4_inb c) = yC c 1 := yS_congr (k0_off4_eq c) _ _
theorem ax5_eq (c : Dev nD) : axS (k0_off5 c) (k0_off5_inb c) = axC c := axS_congr (k0_off5_eq c) _ _
theorem ax8_eq (c : Dev nD) (k : Fin 7) : axS (k0_off8 c (BitVec.ofNat 32 (1 + k.val))) (k0_off8_inb c k) = axC (rot c (7 - k.val)) :=
  axS_congr ((k0_off8_eq c k).trans (by rw [rot_val, show (c.val + 15 - k.val) % 8 = (c.val + (7 - k.val)) % 8 by have := k.isLt; omega])) _ _
theorem ax9_eq (c : Dev nD) (k : Fin 7) : axS (k0_off9 c (BitVec.ofNat 32 (1 + k.val))) (k0_off9_inb c k) = axC (rot c (7 - k.val)) :=
  axS_congr ((k0_off9_eq c k).trans (by rw [rot_val, show (c.val + 15 - k.val) % 8 = (c.val + (7 - k.val)) % 8 by have := k.isLt; omega])) _ _
theorem out10_eq (c : Dev nD) (b : Fin 2) : outS (k0_off10 c (BitVec.ofNat 32 (256 * b.val))) (k0_off10_inb c b) = outC c b 0 :=
  outS_congr (k0_off10_eq c b) _ _
theorem out11_eq (c : Dev nD) (b : Fin 2) : outS (k0_off11 c (BitVec.ofNat 32 (256 * b.val))) (k0_off11_inb c b) = outC c b 1 :=
  outS_congr (k0_off11_eq c b) _ _
theorem out12_eq (c : Dev nD) (t : Fin 7) (b : Fin 2) : outS (k0_off12 c (BitVec.ofNat 32 (1 + t.val)) (BitVec.ofNat 32 (256 * b.val))) (k0_off12_inb c t b) = outC (rot c (7 - t.val)) b 0 :=
  outS_congr ((k0_off12_eq c t b).trans (by rw [rot_val, show (c.val + 15 - t.val) % 8 = (c.val + (7 - t.val)) % 8 by have := t.isLt; omega]; rfl)) _ _
theorem out13_eq (c : Dev nD) (t : Fin 7) (b : Fin 2) : outS (k0_off13 c (BitVec.ofNat 32 (1 + t.val)) (BitVec.ofNat 32 (256 * b.val))) (k0_off13_inb c t b) = outC (rot c (t.val + 1)) b 1 :=
  outS_congr ((k0_off13_eq c t b).trans rfl) _ _

/-! ## The semaphores -/

/-- The `t`-th semaphore of kind `k`: right ring's partial sums sent (0) and received (1), right ring's chunks sent (2) and
    received (3), the left ring's in the same order (4 to 7), the maximum sent (8) and received (9). -/
def sm (k : Fin 10) (t : Fin 7) : DmaSem sig := ⟨2 + 7 * k.val + t.val, by show _ < 75; omega⟩
/-- The kind and number of a semaphore of the seventy. -/
def dec (q : DmaSem sig) : Option (Fin 10 × Fin 7) :=
  if h : 2 ≤ q.val ∧ q.val < 72 then some (⟨(q.val - 2) / 7, by omega⟩, ⟨(q.val - 2) % 7, by omega⟩) else none
theorem dec_sm (k : Fin 10) (t : Fin 7) : dec (sm k t) = some (k, t) := by
  have hk := k.isLt
  have ht := t.isLt
  unfold dec sm
  rw [dif_pos (by simp only; omega)]
  refine congrArg some (Prod.ext (Fin.ext ?_) (Fin.ext ?_)) <;> simp only <;> omega
/-- The same of any semaphore. -/
def decS : SemLoc sig → Option (Fin 10 × Fin 7)
  | .dma q => dec q
  | _ => none

theorem s9 (t : Fin 7) : sem7 cc0_scratch9 t = sm 0 t := by revert t; decide
theorem s10 (t : Fin 7) : sem7 cc0_scratch10 t = sm 1 t := by revert t; decide
theorem s11 (t : Fin 7) : sem7 cc0_scratch11 t = sm 2 t := by revert t; decide
theorem s12 (t : Fin 7) : sem7 cc0_scratch12 t = sm 3 t := by revert t; decide
theorem s13 (t : Fin 7) : sem7 cc0_scratch13 t = sm 4 t := by revert t; decide
theorem s14 (t : Fin 7) : sem7 cc0_scratch14 t = sm 5 t := by revert t; decide
theorem s15 (t : Fin 7) : sem7 cc0_scratch15 t = sm 6 t := by revert t; decide
theorem s16 (t : Fin 7) : sem7 cc0_scratch16 t = sm 7 t := by revert t; decide
theorem s17 (t : Fin 7) : sem7 cc0_scratch17 t = sm 8 t := by revert t; decide
theorem s18 (t : Fin 7) : sem7 cc0_scratch18 t = sm 9 t := by revert t; decide

/-- Device `c`'s `t`-th semaphore of kind `k`. -/
abbrev cell (c : Dev nD) (k : Fin 10) (t : Fin 7) : GSem nD τ sig := ((c : Thread nD τ), .dma (sm k t))

/-- What a transfer of half a chunk counts. -/
def NB : ℕ := (svrM : Memref sig .tc .vmem S512x4096 .bf16).view.dmaCredit
/-- What a transfer of a maximum counts. -/
def NA : ℕ := (amM : Memref sig .tc .vmem S8x128 .f32).view.dmaCredit
theorem NB_pos : 0 < NB := View.dmaCredit_pos _ (by decide)
theorem NA_pos : 0 < NA := View.dmaCredit_pos _ (by decide)
/-- What a semaphore of kind `k` counts. -/
def amt (k : Fin 10) : ℕ := if k.val < 8 then NB else NA
theorem amt_pos (k : Fin 10) : 0 < amt k := by unfold amt; split_ifs; exacts [NB_pos, NA_pos]

/-! ## The contents -/

section Contents

variable (X : Dev nD → S4096x512.Idx → Elt F .bf16) (W : Dev nD → S512x8192.Idx → Elt F .bf16)

/-- Device `c`'s product at step `s` for the right ring. -/
def pR (c : Dev nD) (s : Fin 8) : S1x1x512x4096.Idx → Elt F .bf16 :=
  k0_pay1 (fun j => X c ((Rect.unit (s := S4096x512) (k0_off1 c (BitVec.ofNat 32 s.val)) S512x512.size (k0_off1_inb c s)).emb j))
    (fun j => W c ((Rect.unit (s := S512x8192) ![0, 0] S512x4096.size inb_S512x8192_S512x4096_0_0).emb j))
/-- Device `c`'s product at step `s` for the left ring. -/
def pL (c : Dev nD) (s : Fin 8) : S1x1x512x4096.Idx → Elt F .bf16 :=
  k0_pay1 (fun j => X c ((Rect.unit (s := S4096x512) (k0_off2 c (BitVec.ofNat 32 s.val)) S512x512.size (k0_off2_inb c s)).emb j))
    (fun j => W c ((Rect.unit (s := S512x8192) ![0, 4096] S512x4096.size inb_S512x8192_S512x4096_0_4096).emb j))

/-- The sum device `c` holds for the right ring after `t` steps. -/
def sR : ℕ → Dev nD → S512x4096.Idx → Elt F .bf16
  | 0, c => k0_pay4 (pR X W c 0)
  | t + 1, c => k0_pay9 (pR X W c (Fin.ofNat 8 (t + 1))) (sR t (rot c 7))
/-- The sum device `c` holds for the left ring after `t` steps. -/
def sL : ℕ → Dev nD → S512x4096.Idx → Elt F .bf16
  | 0, c => k0_pay4 (pL X W c 0)
  | t + 1, c => k0_pay9 (pL X W c (Fin.ofNat 8 (t + 1))) (sL t (rot c 1))
/-- Half `h` of the reduced chunk of device `c`. -/
def yv (c : Dev nD) (h : Fin 2) : S512x4096.Idx → Elt F .bf16 := if h = 0 then sR X W 7 c else sL X W 7 c
/-- The maximum of device `c`'s reduced chunk, spread. -/
def am (c : Dev nD) : S8x128.Idx → Elt F .f32 := k0_pay42 (yv X W c 0) (yv X W c 1)
/-- The maximum of device `c`'s reduced chunk. -/
def mloc (c : Dev nD) : F .f32 := k0_pay41 (yv X W c 0) (yv X W c 1)
/-- The maximum once the first `n` others are in. -/
def mxs (c : Dev nD) : ℕ → F .f32
  | 0 => mloc X W c
  | n + 1 => mx (mxs c n) (unsq squeezes_S1x8x128_S8x128 (am X W (rot c (7 - n))))
/-- The scale device `c` computes. -/
def sca (c : Dev nD) : F .f32 := scaleOf (mxs X W c 7)
/-- What device `c` writes to rows half `b` of half `h` of chunk `j`. -/
def qv (c j : Dev nD) (b h : Fin 2) : S256x4096.Idx → Elt F .f32 :=
  k0_pay52 (sca X W c) (rinvOf (sca X W c)) (fun i => yv X W j h ((Rect.unit (s := S512x4096) ![256 * b.val, 0] S256x4096.size (by revert b; decide)).emb i))

/-- The share of the maximum's buffer left after `n` sends. -/
def qs : ℕ → PosShare TreeShare
  | 0 => fullShare
  | n + 1 => (qs n).right

/-! ## What is handed over -/

theorem Ico_step {a b : ℕ} (h : a < b) : Finset.Ico a b = insert a (Finset.Ico (a + 1) b) := by
  ext x; simp only [Finset.mem_insert, Finset.mem_Ico]; omega

/-- The slots of device `j`'s maxima that the right ring's message `t` carries: those of the devices more than `t` places on. -/
def slots (j : Dev nD) (t : ℕ) : PP F := bigSep (Finset.Ico (t + 1) 8) fun m => own_ (F := F) j (axC (rot j m))
theorem slots_step (j : Dev nD) (t : ℕ) (h : t < 7) : slots (F := F) j t = iprop(own_ (F := F) j (axC (rot j (t + 1))) ∗ slots (F := F) j (t + 1)) := by
  unfold slots
  rw [Ico_step (by omega : t + 1 < 8), bigSep_insert (by simp)]; rfl

/-- What the semaphore `t` of kind `k` hands to device `c`. -/
def pay (c : Dev nD) (k : Fin 10) (t : Fin 7) : PP F :=
  match k with
  | 0 => own1 c svrM (sR X W t.val c)
  | 1 => iprop(own1 c (recvR t) (sR X W t.val (rot c 7)) ∗ slots (rot c (7 - t.val)) t.val)
  | 2 => ownsTc c (yC (rot c (8 - t.val)) 0) fullShare.left (yv X W (rot c (8 - t.val)) 0)
  | 3 => own1 c (yC (rot c (7 - t.val)) 0) (yv X W (rot c (7 - t.val)) 0)
  | 4 => own1 c svlM (sL X W t.val c)
  | 5 => own1 c (recvL t) (sL X W t.val (rot c 1))
  | 6 => ownsTc c (yC (rot c t.val) 1) fullShare.left (yv X W (rot c t.val) 1)
  | 7 => own1 c (yC (rot c (t.val + 1)) 1) (yv X W (rot c (t.val + 1)) 1)
  | 8 => ownsTc c amM (qs t.val).left (am X W c)
  | 9 => own1 c (axC (rot c (7 - t.val))) (am X W (rot c (7 - t.val)))

instance slots_storable (j : Dev nD) (t : ℕ) : BI.Storable (upEmb : UEmb _ (MM F)) (slots (F := F) j t) := by
  unfold slots; infer_instance

instance pay_storable (c : Dev nD) (k : Fin 10) (t : Fin 7) : BI.Storable (upEmb : UEmb _ (MM F)) (pay X W c k t) := by
  unfold pay; split <;> infer_instance

/-- The schedule: each of the seventy has one duty, in its first round. -/
def Rd : Rounds.Schedule (GSem nD τ sig) Unit (MM F) where
  duties g r := if r = 0 ∧ g.1.2 = .tc ∧ (decS g.2).isSome then {()} else ∅
  amount g _ _ := ((decS g.2).map fun p => amt p.1).getD 1
  payload g _ _ := match decS g.2 with
    | some p => pay X W g.1.1 p.1 p.2
    | none => iprop(emp)
  amount_pos g _ _ _ := by
    cases decS g.2 with
    | none => exact Nat.one_pos
    | some p => exact amt_pos p.1
  unitless _ := False

instance Rd_storable (g : GSem nD τ sig) (r : ℕ) (d : Unit) : BI.Storable (upEmb : UEmb _ (MM F)) ((Rd X W).payload g r d) := by
  show BI.Storable _ (match decS g.2 with
    | some p => pay X W g.1.1 p.1 p.2
    | none => iprop(emp))
  split <;> infer_instance

theorem duties_cell (c : Dev nD) (k : Fin 10) (t : Fin 7) : (Rd X W).duties (cell c k t) 0 = {()} := by
  dsimp only [Rd]; exact if_pos ⟨rfl, rfl, by rw [decS, dec_sm]; rfl⟩
theorem duties_later (g : GSem nD τ sig) : ∀ r, 1 ≤ r → (Rd X W).duties g r = ∅ :=
  fun r hr => by dsimp only [Rd]; rw [if_neg fun h => by omega]
theorem amount_cell (c : Dev nD) (k : Fin 10) (t : Fin 7) (u : Unit) : (Rd X W).amount (cell c k t) 0 u = amt k := by
  dsimp only [Rd]; rw [decS, dec_sm]; rfl
theorem payload_cell (c : Dev nD) (k : Fin 10) (t : Fin 7) (u : Unit) : (Rd X W).payload (cell c k t) 0 u = pay X W c k t := by
  dsimp only [Rd]; rw [decS, dec_sm]
theorem expect_cell (c : Dev nD) (k : Fin 10) (t : Fin 7) : (Rd X W).expect (cell c k t) 0 = amt k := by
  unfold Schedule.expect Schedule.amountOf; rw [duties_cell, Finset.sum_singleton, amount_cell]

end Contents

/-! ## What a device owes, in the order it pays -/

/-- The receiving end of device `c`'s `i`-th send. -/
def tgt (c : Dev nD) (i : ℕ) : Dev nD × Fin 10 × Fin 7 :=
  if i < 14 then (if i % 2 = 0 then (rot c 1, 1, Fin.ofNat 7 (i / 2)) else (rot c 7, 5, Fin.ofNat 7 (i / 2)))
  else if i < 21 then (rot c (1 + (i - 14)), 9, Fin.ofNat 7 (i - 14))
  else if i % 2 = 1 then (rot c 1, 3, Fin.ofNat 7 ((i - 21) / 2)) else (rot c 7, 7, Fin.ofNat 7 ((i - 21) / 2))
/-- What it owes it. -/
def due (c : Dev nD) (i : ℕ) : CellTallies nD τ sig Unit := tallyAt (cell (tgt c i).1 (tgt c i).2.1 (tgt c i).2.2) () (amt (tgt c i).2.1)
/-- What device `c` owes once its first `n` sends are made. -/
def owed (c : Dev nD) (n : ℕ) : CellTallies nD τ sig Unit := ∑ i ∈ Finset.Ico n 35, due c i

theorem owed_step (c : Dev nD) (n : ℕ) (h : n < 35) : owed c n = owed c (n + 1) + due c n := by
  unfold owed; rw [Ico_step h, Finset.sum_insert (by simp), add_comm]
theorem owed_end (c : Dev nD) : owed c 35 = 0 := by unfold owed; simp

theorem owed_pos {c : Dev nD} {n : ℕ} {g : GSem nD τ sig} {u : Unit} (h : 0 < owed c n g u) :
    ∃ i, n ≤ i ∧ i < 35 ∧ g = cell (tgt c i).1 (tgt c i).2.1 (tgt c i).2.2 := by
  by_contra hn
  refine absurd h (Nat.not_lt.mpr (Nat.le_zero.mpr ?_))
  unfold owed
  rw [Finset.sum_apply, Finsupp.finset_sum_apply]
  refine Finset.sum_eq_zero fun i hi => ?_
  rw [Finset.mem_Ico] at hi
  unfold due
  rw [tallyAt_apply, if_neg fun h' => hn ⟨i, hi.1, hi.2, h'.1⟩]

/-- The levels: a step's transfers above the step before's. -/
def lvk (k : Fin 10) (t : Fin 7) : ℕ :=
  if k.val = 8 ∨ k.val = 9 then 8 else if k.val % 4 < 2 then t.val + 1 else 9 + t.val
def lv (g : GSem nD τ sig) (_ : Unit) : ℕ := ((decS g.2).map fun p => lvk p.1 p.2).getD 0
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 10) (t : Fin 7) : lv (cell c k t) () = lvk k t := by
  unfold lv; rw [decS, dec_sm]; rfl

/-- The level of the `i`-th send's receiving end. -/
def lvi (i : ℕ) : ℕ := if i < 14 then i / 2 + 1 else if i < 21 then 8 else 9 + (i - 21) / 2
theorem lv_tgt (c : Dev nD) (i : ℕ) (hi : i < 35) : lvk (tgt c i).2.1 (tgt c i).2.2 = lvi i := by
  unfold tgt lvi lvk
  split_ifs <;> simp_all [Fin.ofNat] <;> omega

/-- A device may wait on a semaphore whose level is below every send it still owes. -/
theorem mayWait (c : Dev nD) (s : DmaSem sig) (n l : ℕ) (hl : lv ((c : Thread nD τ), .dma s) () ≤ l) (h : ∀ i, n ≤ i → i < 35 → l < lvi i) :
    (levAts L lv : PP F) ⊢ MayWait (c : Thread nD τ) (.dma s) () (owed c n) :=
  MayOwe.of_cut (L := L) (lev := lv) l (fun p hp => by rw [Finset.mem_singleton.mp hp, L_tc]; exact Finset.mem_singleton_self _)
    (fun g u hg => by obtain ⟨i, -, -, rfl⟩ := owed_pos hg; exact Finset.mem_singleton_self _)
    (fun p hp => by rw [Finset.mem_singleton.mp hp]; exact hl)
    (fun g u hg => by
      obtain ⟨i, h1, h2, rfl⟩ := owed_pos hg
      show l < lv _ ()
      rw [lv_cell, lv_tgt c i h2]
      exact h i h1 h2)

/-! ## The context and the steps between devices -/

section Ctx

variable (X : Dev nD → S4096x512.Idx → Elt F .bf16) (W : Dev nD → S512x8192.Idx → Elt F .bf16)

/-- The seventy semaphores of every device. -/
abbrev Ce : Type := Dev nD × Fin 10 × Fin 7
abbrev kcell (i : Ce) : GSem nD τ sig := cell i.1 i.2.1 i.2.2

/-- What every device knows: each semaphore's invariant, that each is in its first round, and the levels. -/
def recs (K : Ce → ℕ) : PP F :=
  iprop((bigSep Finset.univ fun i => cellInv ER (Rd X W) (K i) (kcell i)) ∗ (bigSep Finset.univ fun i => reached ER (kcell i) 0) ∗ levAts L lv)

instance recs_persistent (K : Ce → ℕ) : BI.Persistent (recs X W K) := by unfold recs; infer_instance

theorem recs_inv (K : Ce → ℕ) (c : Dev nD) (k : Fin 10) (t : Fin 7) : recs X W K ⊢ cellInv ER (Rd X W) (K (c, k, t)) (cell c k t) := by
  unfold recs
  iintro ⟨H, -, -⟩
  ihave H2 := (Entails.of_eq (bigSep_univ_at (fun i => cellInv ER (Rd X W) (K i) (kcell i)) (c, k, t))) $$ H
  icases H2 with ⟨H, -⟩
  iexact H
theorem recs_reached (K : Ce → ℕ) (c : Dev nD) (k : Fin 10) (t : Fin 7) : recs X W K ⊢ reached ER (cell c k t) 0 := by
  unfold recs
  iintro ⟨-, H, -⟩
  ihave H2 := (Entails.of_eq (bigSep_univ_at (fun i => (reached ER (kcell i) 0 : PP F)) (c, k, t))) $$ H
  icases H2 with ⟨H, -⟩
  iexact H
theorem recs_lev (K : Ce → ℕ) : recs X W K ⊢ levAts L lv := by unfold recs; iintro ⟨-, -, H⟩; iexact H

variable {X W}

/-- A transfer to another device, from the semaphore `t` of kind `k` to that of kind `k'`: the source's part goes with the
    sender's semaphore, the destination, now holding the same, with the receiver's. -/
theorem sendTo {K : Ce → ℕ} {c dev : Dev nD} {sp sp' : Space} {s : Shape} {e : EltTy} {α : Type} {src : Memref sig .tc sp s e} {dst : Memref sig .tc sp' s e}
    {hsc : dst.view.ref.isScScratch = false}
    {s₁ s₂ : DmaSem sig} {hsrc : src.view.WordExact} {hdst : dst.view.WordExact}
    {hsem : DmaTarget.Typed (nD := nD) (τ := τ) (p := .tc) sp (.dma s₂) (.remote (Dev.tc dev : Thread nD τ) dst (.dma s₁) hsc)}
    {kk : PUnit → PF F α} {Q : α → PP F} {q : PosShare TreeShare} {Y : s.Idx → Elt F e}
    (c' : Dev nD) (k k' : Fin 10) (t : Fin 7) (n : ℕ) (G : PP F)
    (hc : dev = c') (h₁ : s₁ = sm k t) (h₂ : s₂ = sm k' t) (hn : n < 35) (ht : tgt c n = (c', k', t)) (hk : amt k = amt k')
    (hN : dst.view.dmaCredit = amt k')
    (hp₁ : ownsTc c src q Y ⊢ pay X W c k t) (hp₂ : iprop(own1 c' dst Y ∗ G) ⊢ pay X W c' k' t) :
    iprop(recs X W K ∗ ownsTc c src q Y ∗ own_ c' dst ∗ G ∗ ow c (owed c n) ∗ dutyTok ER (cell c k t) 0 () ∗ dutyTok ER (cell c' k' t) 0 ())
      ⊢ iprop(((cred (tallyAt (cell c k t) () (amt k)) ∗ ow c (owed c (n + 1))) -∗ WP c (kk ⟨⟩) Q)
        -∗ WP c (Prog.lift (.enqueueDma src (.remote (Dev.tc dev : Thread nD τ) dst (.dma s₁) hsc) (.dma s₂) hsrc hdst hsem) >>= kk) Q) := by
  subst hc h₁ h₂
  iintro ⟨#HR, Hs, Hd, HG, Ho, T1, T2⟩ Hk
  ihave #I1 := (recs_inv X W K c k t) $$ HR
  ihave #I2 := (recs_inv X W K dev k' t) $$ HR
  ihave #R1 := (recs_reached X W K c k t) $$ HR
  ihave #R2 := (recs_reached X W K dev k' t) $$ HR
  unfold own_ own1 ow ownsTc owns
  unfold ownsTc owns at hp₁
  unfold own1 ownsTc owns at hp₂
  icases Hs with ⟨%fs, %hf, Hs⟩
  icases Hd with ⟨%Z, %fd, -, Hd⟩
  icases Ho with ⟨%Wt, Ho⟩
  iapply (Rounds.wp_send_pointsTo_with 𝒱₀ ER (Rd X W) (c : Thread nD τ) none (κ₁ := K (c, k, t)) (κ₂ := K (dev, k', t))
    (src := src) (dst := dst) (c' := (Dev.tc dev : Thread nD τ)) (q := q) (k := kk) (sS := .dma (sm k t)) (sem := .dma (sm k' t)) (O₀ := owed c n)
    (r₁ := 0) (r₂ := 0) (d₁ := ()) (d₂ := ()) (fs := fs) (fd := fd) (F := G)
    (by rw [duties_cell]; exact Finset.mem_singleton_self _) (by rw [duties_cell]; exact Finset.mem_singleton_self _)
    () () (amt k') hN ((amount_cell X W c k t ()).trans hk) (amount_cell X W dev k' t ()) (owed c (n + 1)) (by
      rw [owed_step c n hn]; unfold due; rw [ht]) (W := Wt)
    (by
      rw [payload_cell]
      refine .trans ?_ hp₁
      iintro H; iexists fs; isplitr
      · ipureintro; exact hf
      iexact H)
    (by
      rw [payload_cell]
      refine .trans ?_ hp₂
      iintro ⟨H, HG⟩
      isplitl [H]
      · iexists (dst.view.write (Elt F) fd (src.view.read (Elt F) fs) Finset.univ); isplitr
        · ipureintro; exact (View.read_write_univ _ _).trans hf
        iexact H
      iexact HG)) $$ [Hs Hd HG Ho T1 T2]
  · isplitr; · iexact I1
    isplitr; · iexact I2
    isplitl [Hs]; · iexact Hs
    isplitl [Hd HG]
    · isplitl [Hd]; · iexact Hd
      iexact HG
    isplitl [Ho]; · iexact Ho
    isplitl [T1]; · iexact T1
    isplitr; · iexact R1
    isplitl [T2]; · iexact T2
    iexact R2
  iintro ⟨Hc, Ho⟩
  iapply Hk
  rw [hk]
  isplitl [Hc]; · iexact Hc
  iexists Wt; iexact Ho

/-- The wait for the semaphore `t` of kind `k`: the device gets what it hands over, and the semaphore back at zero. -/
theorem waitFor {K : Ce → ℕ} {c : Dev nD} {sp sp' : Space} {s s' : Shape} {e e' : EltTy} {α : Type} {src : Memref sig .tc sp s e} {dst : Memref sig .tc sp' s' e'}
    {s₁ : DmaSem sig} {hsrc : src.view.WordExact} {hdst : dst.view.WordExact}
    {kk : PUnit → PF F α} {Q : α → PP F}
    (k : Fin 10) (t : Fin 7) (n : ℕ) (h₁ : s₁ = sm k t) (hN : dst.view.dmaCredit = amt k) (hl : ∀ i, n ≤ i → i < 35 → lvk k t < lvi i) :
    iprop(recs X W K ∗ cred (tallyAt (cell c k t) () (amt k)) ∗ ow c (owed c n) ∗ atPos ER (cell c k t) 0 ∅ 0)
      ⊢ iprop(((ow c (owed c n) ∗ semVal (cell c k t) 0 ∗ pay X W c k t) -∗ WP c (kk ⟨⟩) Q)
        -∗ WP c (Prog.lift (.waitDma2 s₁ src dst hsrc hdst) >>= kk) Q) := by
  subst h₁
  iintro ⟨#HR, Hc, Ho, HA⟩ Hk
  ihave #I1 := (recs_inv X W K c k t) $$ HR
  ihave #HL := (recs_lev X W K) $$ HR
  ihave HM := (mayWait (F := F) c (sm k t) n (lvk k t) (le_of_eq (lv_cell c k t)) hl) $$ HL
  unfold ow
  icases Ho with ⟨%Wt, Ho⟩
  iapply (Rounds.wp_wait_rest_token 𝒱₀ ER (Rd X W) (c : Thread nD τ) none (κ := K (c, k, t)) (wpE_waitDma2_eq 𝒱₀ (c : Thread nD τ) none Set.univ) (Set.mem_univ _)
    (k := kk) () (O := owed c n) (W := Wt) (R := 0) (m := 0) (T := ∅) (k' := dst.view.dmaCredit) (by rw [expect_cell, Nat.zero_add]; exact hN)) $$ [Hc Ho HA HM]
  · isplitr; · iexact I1
    isplitl [Hc]; · rw [hN]; iexact Hc
    isplitl [Ho]; · iexact Ho
    isplitl [HM]; · iexact HM
    iexact HA
  iintro ⟨Ho, HA, -, HP⟩
  ihave HP2 := (Entails.of_eq (show bigSep ((Rd X W).duties (cell c k t) 0 \ ∅) (fun d => (Rd X W).payload (cell c k t) 0 d) = pay X W c k t by
    rw [Finset.sdiff_empty, duties_cell, bigSep_singleton, payload_cell])) $$ HP
  iapply (fupd_wp _ _ _ _ _)
  imod (cell_close (E := ER) (Rd := Rd X W) (κ := K (c, k, t)) (g := cell c k t) (R := 0 + 1) (Set.mem_univ _) (fun h => h) (fun r hr => duties_later X W _ r hr)) $$ [HA] with HV
  · isplitr; · iexact I1
    iexact HA
  imodintro
  iapply Hk
  isplitl [Ho]; · iexists _; iexact Ho
  isplitl [HV]; · iexact HV
  iexact HP2

end Ctx

end Cert.KernelIdeal.Own

end
-- ==== Proof.Reduce.lean ====
module

public import proofs.«01_k».proof.Proof.Sched

@[expose] public section

noncomputable section

/-! # The reduction's blocks

What each block of the reduction takes and gives, at any device, any step, and any contents of `x` and `w`. -/

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

/-! ## Whole buffers -/

theorem emb_zero {s : Shape} {off : Fin s.rank → Nat} (h : off = fun _ => 0) (inb : ∀ a, off a + s.size a ≤ s.size a) (j : s.Idx) :
    (Rect.unit off s.size inb).emb j = j := by
  subst h
  funext a
  exact Fin.ext (by rw [Rect.emb_apply]; simp)

theorem zero2 : (![0, 0] : Fin 2 → Nat) = fun _ => 0 := funext fun a => by fin_cases a <;> rfl

/-- A load of all of a memref. -/
theorem ldW {c : Dev nD} {cs : CoreSpace} {s : Shape} {e : EltTy} {α : Type} {m : Memref sig .tc cs s e} {off : Fin s.rank → Nat}
    {inb : ∀ a, off a + s.size a ≤ s.size a} {hl : m.view.LoadsAt (Rect.unit off s.size inb).toLoadRect}
    {k : (s.Idx → Elt F e) → PF F α} {Q : α → PP F} {q : PosShare TreeShare} {X : s.Idx → Elt F e} (h : off = fun _ => 0) :
    ownsTc c m q X ⊢ iprop((ownsTc c m q X -∗ WP c (k X) Q) -∗ WP c (Prog.lift (.load m (Rect.unit off s.size inb).toLoadRect hl) >>= k) Q) := by
  have hX : (fun j => X ((Rect.unit off s.size inb).emb j)) = X := funext fun j => by rw [emb_zero h inb]
  have := ld (c := c) (m := m) (r := Rect.unit off s.size inb) (hl := hl) (k := k) (Q := Q) (q := q) (X := X)
  rw [hX] at this
  exact this

/-- A store over all of a memref. -/
theorem stW {c : Dev nD} {cs : CoreSpace} {s : Shape} {e : EltTy} {α : Type} {m : Memref sig .tc cs s e} {off : Fin s.rank → Nat}
    {inb : ∀ a, off a + s.size a ≤ s.size a} {w : s.Idx → Elt F e} {hx : (m.access (Rect.unit off s.size inb)).Stores Finset.univ}
    {hm : (Finset.univ : Finset (Rect.unit off s.size inb).shape.Idx) = Finset.univ ∨ ∀ a, (Rect.unit off s.size inb).stride a = 1}
    {k : PUnit → PF F α} {Q : α → PP F} (h : off = fun _ => 0) :
    own_ c m ⊢ iprop((own1 c m w -∗ WP c (k ⟨⟩) Q) -∗ WP c (Prog.lift (.store m (Rect.unit off s.size inb) w Finset.univ hx hm) >>= k) Q) := by
  iintro ⟨%Y, H⟩ Hk
  iapply (st (m := m) (r := Rect.unit off s.size inb) (w := w) (X := Y)) $$ [H]
  · iexact H
  iintro H
  iapply Hk
  have hw : (Rect.unit off s.size inb).overlay Y w = w := funext fun j => by
    have := Rect.overlay_emb (Rect.unit off s.size inb) Y w j
    rwa [emb_zero h inb] at this
  rw [hw]
  iexact H

/-! ## The partial products' buffer -/

/-- Half `h` of slot `b`. -/
abbrev pcr (b h : Fin 2) : Rect S2x2x512x4096 := Rect.unit (s := S2x2x512x4096) ![b.val, h.val, 0, 0] S1x1x512x4096.size (inb_pc b h)

/-- Slot `b` of the partial products holds `P` and `Q`. -/
def pcAt (c : Dev nD) (b : Fin 2) (P Q : S1x1x512x4096.Idx → Elt F .bf16) : PP F :=
  iprop(∃ Y, ⌜(fun j => Y ((pcr b 0).emb j)) = P ∧ (fun j => Y ((pcr b 1).emb j)) = Q⌝ ∗ own1 c pcM Y)

theorem pcAt_own (c : Dev nD) (b : Fin 2) (P Q : S1x1x512x4096.Idx → Elt F .bf16) : pcAt c b P Q ⊢ own_ c pcM := by
  unfold pcAt; iintro ⟨%Y, -, H⟩; iexists Y; iexact H

theorem pc_overlay (b : Fin 2) (Y : S2x2x512x4096.Idx → Elt F .bf16) (P Q : S1x1x512x4096.Idx → Elt F .bf16) :
    (fun j => (pcr b 1).overlay ((pcr b 0).overlay Y P) Q ((pcr b 0).emb j)) = P
      ∧ (fun j => (pcr b 1).overlay ((pcr b 0).overlay Y P) Q ((pcr b 1).emb j)) = Q := by
  refine ⟨funext fun j => ?_, funext fun j => Rect.overlay_emb _ _ _ j⟩
  have hd : Disjoint (pcr b 0).set (pcr b 1).set := Rect.unit_disjoint (1 : Fin 4) (Or.inl (by show 0 + 1 ≤ 1; omega))
  rw [Rect.overlay_of_not_mem _ _ _ (Finset.disjoint_left.mp hd (by rw [← Rect.map_emb_univ]; exact Finset.mem_map_of_mem _ (Finset.mem_univ j)))]
  exact Rect.overlay_emb _ _ _ j

section Blocks

variable {X : Dev nD → S4096x512.Idx → Elt F .bf16} {W : Dev nD → S512x8192.Idx → Elt F .bf16} {K : Ce → ℕ} {α : Type}
variable {kk : PUnit → PF F α} {Q : α → PP F}

theorem pcompH_spec (c : Dev nD) (b h : Fin 2) (off : Fin 2 → Nat) (inb : ∀ a, off a + S512x512.size a ≤ S4096x512.size a)
    (woff : Fin 2 → Nat) (winb : ∀ a, woff a + S512x4096.size a ≤ S512x8192.size a) (x : S4096x512.Idx → Elt F .bf16) (w : S512x8192.Idx → Elt F .bf16)
    (Y : S2x2x512x4096.Idx → Elt F .bf16) :
    iprop(own1 c xM x ∗ own1 c wM w ∗ own1 c pcM Y)
      ⊢ iprop(((own1 c xM x ∗ own1 c wM w ∗ own1 c pcM ((pcr b h).overlay Y
            (k0_pay1 (fun j => x ((Rect.unit (s := S4096x512) off S512x512.size inb).emb j)) (fun j => w ((Rect.unit (s := S512x8192) woff S512x4096.size winb).emb j)))))
          -∗ WP c (kk ⟨⟩) Q)
        -∗ WP c (pcompH b h off inb woff winb >>= kk) Q) := by
  unfold pcompH
  simp only [bind_assoc]
  iintro ⟨Hx, Hw, Hp⟩ Hk
  iapply ld $$ [Hx]
  · iexact Hx
  iintro Hx
  iapply ld $$ [Hw]
  · iexact Hw
  iintro Hw
  iapply ld $$ [Hp]
  · iexact Hp
  iintro Hp
  iapply st $$ [Hp]
  · iexact Hp
  iintro Hp
  iapply Hk
  isplitl [Hx]; · iexact Hx
  isplitl [Hw]; · iexact Hw
  iexact Hp

theorem pcomp_spec (c : Dev nD) (s : Fin 8) (b : Fin 2) :
    iprop(own1 c xM (X c) ∗ own1 c wM (W c) ∗ own_ c pcM)
      ⊢ iprop(((own1 c xM (X c) ∗ own1 c wM (W c) ∗ pcAt c b (pR X W c s) (pL X W c s)) -∗ WP c (kk ⟨⟩) Q)
        -∗ WP c (pcomp c s b >>= kk) Q) := by
  unfold pcomp
  simp only [bind_assoc]
  iintro ⟨Hx, Hw, ⟨%Y, Hp⟩⟩ Hk
  iapply (pcompH_spec c b 0 _ _ _ _ (X c) (W c) Y) $$ [Hx Hw Hp]
  · isplitl [Hx]; · iexact Hx
    isplitl [Hw]; · iexact Hw
    iexact Hp
  iintro ⟨Hx, Hw, Hp⟩
  iapply (pcompH_spec c b 1 _ _ _ _ (X c) (W c) _) $$ [Hx Hw Hp]
  · isplitl [Hx]; · iexact Hx
    isplitl [Hw]; · iexact Hw
    iexact Hp
  iintro ⟨Hx, Hw, Hp⟩
  iapply Hk
  isplitl [Hx]; · iexact Hx
  isplitl [Hw]; · iexact Hw
  unfold pcAt
  iexists _
  isplitr
  · ipureintro; exact pc_overlay b Y _ _
  iexact Hp

theorem rsFill_spec (c : Dev nD) (P P' : S1x1x512x4096.Idx → Elt F .bf16) :
    iprop(pcAt c 0 P P' ∗ own_ c svrM ∗ own_ c svlM)
      ⊢ iprop(((own_ c pcM ∗ own1 c svrM (k0_pay4 P) ∗ own1 c svlM (k0_pay4 P')) -∗ WP c (kk ⟨⟩) Q) -∗ WP c (rsFill >>= kk) Q) := by
  unfold rsFill pcAt
  simp only [bind_assoc]
  iintro ⟨⟨%Y, %hY, Hp⟩, ⟨%a, Ha⟩, ⟨%b, Hb⟩⟩ Hk
  obtain ⟨rfl, rfl⟩ := hY
  iapply ld $$ [Hp]
  · iexact Hp
  iintro Hp
  iapply (ldW zero2) $$ [Ha]
  · iexact Ha
  iintro Ha
  iapply (stW zero2) $$ [Ha]
  · iexists a; iexact Ha
  iintro Ha
  iapply ld $$ [Hp]
  · iexact Hp
  iintro Hp
  iapply (ldW zero2) $$ [Hb]
  · iexact Hb
  iintro Hb
  iapply (stW zero2) $$ [Hb]
  · iexists b; iexact Hb
  iintro Hb
  iapply Hk
  isplitl [Hp]; · iexists Y; iexact Hp
  isplitl [Ha]; · iexact Ha
  iexact Hb

theorem rsAdd_spec (c : Dev nD) (b : Fin 2) (P P' : S1x1x512x4096.Idx → Elt F .bf16) (A B : S512x4096.Idx → Elt F .bf16) :
    iprop(pcAt c b P P' ∗ own1 c rvrM A ∗ own1 c rvlM B ∗ own_ c svrM ∗ own_ c svlM)
      ⊢ iprop(((own_ c pcM ∗ own1 c rvrM A ∗ own1 c rvlM B ∗ own1 c svrM (k0_pay9 P A) ∗ own1 c svlM (k0_pay9 P' B)) -∗ WP c (kk ⟨⟩) Q)
        -∗ WP c (rsAdd b >>= kk) Q) := by
  unfold rsAdd pcAt
  simp only [bind_assoc]
  iintro ⟨⟨%Y, %hY, Hp⟩, HA, HB, ⟨%a, Ha⟩, ⟨%b', Hb⟩⟩ Hk
  obtain ⟨rfl, rfl⟩ := hY
  iapply ld $$ [Hp]
  · iexact Hp
  iintro Hp
  iapply (ldW zero2) $$ [HA]
  · iexact HA
  iintro HA
  iapply (ldW zero2) $$ [Ha]
  · iexact Ha
  iintro Ha
  iapply (stW zero2) $$ [Ha]
  · iexists a; iexact Ha
  iintro Ha
  iapply ld $$ [Hp]
  · iexact Hp
  iintro Hp
  iapply (ldW zero2) $$ [HB]
  · iexact HB
  iintro HB
  iapply (ldW zero2) $$ [Hb]
  · iexact Hb
  iintro Hb
  iapply (stW zero2) $$ [Hb]
  · iexists b'; iexact Hb
  iintro Hb
  iapply Hk
  isplitl [Hp]; · iexists Y; iexact Hp
  isplitl [HA]; · iexact HA
  isplitl [HB]; · iexact HB
  isplitl [Ha]; · iexact Ha
  iexact Hb

/-! ## Copies within the device -/

/-- The semaphore of the copies within the device. -/
abbrev csem : DmaSem sig := SemArray.sem cc0_scratch19

theorem lvi_pos (i : ℕ) : 0 < lvi i := by unfold lvi; split_ifs <;> omega

/-- A wait on a semaphore none of the seventy is allowed whatever is owed. -/
theorem mayWait0 (c : Dev nD) (s : DmaSem sig) (n : ℕ) (hs : dec s = none) : recs X W K ⊢ MayWait (c : Thread nD τ) (.dma s) () (owed c n) :=
  (recs_lev X W K).trans (mayWait c s n 0 (by unfold lv; rw [decS, hs]; exact le_refl _) (fun i _ _ => lvi_pos i))

theorem copyIn_spec (c : Dev nD) (n : ℕ) (src : Memref sig .tc .hbm S512x4096 .bf16) (hs : src.view.WordExact) (b : Memref sig .tc .vmem S512x4096 .bf16) (hb : b.view.WordExact)
    (q : PosShare TreeShare) (Y : S512x4096.Idx → Elt F .bf16) :
    iprop(recs X W K ∗ ownsTc c src q Y ∗ own_ c b ∗ semVal ((c : Thread nD τ), .dma csem) 0 ∗ ow c (owed c n))
      ⊢ iprop(((ownsTc c src q Y ∗ own1 c b Y ∗ semVal ((c : Thread nD τ), .dma csem) 0 ∗ ow c (owed c n)) -∗ WP c (kk ⟨⟩) Q)
        -∗ WP c (copyIn src hs b hb >>= kk) Q) := by
  unfold copyIn
  simp only [bind_assoc]
  iintro ⟨#HR, Hs, Hd, Hv, Ho⟩ Hk
  iapply (startCopy (c := c) (src := src) (dst := b) (X := Y) (q := q) NB rfl NB_pos) $$ [Hs Hd Hv]
  · isplitl [Hs]; · iexact Hs
    isplitl [Hd]; · iexact Hd
    iexact Hv
  iintro Hf
  ihave HM := (mayWait0 c csem n (by decide)) $$ HR
  iapply (endCopy (c := c) (src := src) (dst := b) (X := Y) (q := q) NB rfl) $$ [Hf Ho HM]
  · isplitl [Hf]; · iexact Hf
    isplitl [Ho]; · iexact Ho
    iexact HM
  iexact Hk

theorem copyOut_spec (c : Dev nD) (n : ℕ) (b : Memref sig .tc .vmem S512x4096 .bf16) (hb : b.view.WordExact) (dst : Memref sig .tc .hbm S512x4096 .bf16) (hd : dst.view.WordExact)
    (Y : S512x4096.Idx → Elt F .bf16) :
    iprop(recs X W K ∗ own1 c b Y ∗ own_ c dst ∗ semVal ((c : Thread nD τ), .dma csem) 0 ∗ ow c (owed c n))
      ⊢ iprop(((own1 c b Y ∗ own1 c dst Y ∗ semVal ((c : Thread nD τ), .dma csem) 0 ∗ ow c (owed c n)) -∗ WP c (kk ⟨⟩) Q)
        -∗ WP c (copyOut b hb dst hd >>= kk) Q) := by
  unfold copyOut
  simp only [bind_assoc]
  iintro ⟨#HR, Hs, Hd, Hv, Ho⟩ Hk
  iapply (startCopy (c := c) (src := b) (dst := dst) (X := Y) (q := fullShare) NB rfl NB_pos) $$ [Hs Hd Hv]
  · isplitl [Hs]; · iexact Hs
    isplitl [Hd]; · iexact Hd
    iexact Hv
  iintro Hf
  ihave HM := (mayWait0 c csem n (by decide)) $$ HR
  iapply (endCopy (c := c) (src := b) (dst := dst) (X := Y) (q := fullShare) NB rfl) $$ [Hf Ho HM]
  · isplitl [Hf]; · iexact Hf
    isplitl [Ho]; · iexact Ho
    iexact HM
  iexact Hk

/-! ## The ring's steps -/

/-- What a transfer of 512 by 4096 elements is worth. -/
theorem creditB {sp : Space} (m : Memref sig .tc sp S512x4096 .bf16) : m.view.dmaCredit = NB := rfl

/-- What device `c` needs for its sends of step `t`: the four duties, and the neighbours' receive areas. -/
def sendRes (c : Dev nD) (t : Fin 7) : PP F :=
  iprop(dutyTok ER (cell c 0 t) 0 () ∗ dutyTok ER (cell (rot c 1) 1 t) 0 () ∗ dutyTok ER (cell c 4 t) 0 () ∗ dutyTok ER (cell (rot c 7) 5 t) 0 ()
    ∗ own_ (rot c 1) (recvR t) ∗ own_ (rot c 7) (recvL t))
/-- What it needs for its waits of step `t`. -/
def waitRes (c : Dev nD) (t : Fin 7) : PP F :=
  iprop(atPos ER (cell c 0 t) 0 ∅ 0 ∗ atPos ER (cell c 1 t) 0 ∅ 0 ∗ atPos ER (cell c 4 t) 0 ∅ 0 ∗ atPos ER (cell c 5 t) 0 ∅ 0
    ∗ cred (tallyAt (cell c 1 t) () (amt 1)) ∗ cred (tallyAt (cell c 5 t) () (amt 5)))
/-- What the sends of step `t` leave to wait with. -/
def sendCr (c : Dev nD) (t : Fin 7) : PP F :=
  iprop(cred (tallyAt (cell c 0 t) () (amt 0)) ∗ cred (tallyAt (cell c 4 t) () (amt 4)))
/-- The four semaphores of step `t`, back at zero. -/
def zeros (c : Dev nD) (t : Fin 7) : PP F :=
  iprop(semVal (cell c 0 t) 0 ∗ semVal (cell c 1 t) 0 ∗ semVal (cell c 4 t) 0 ∗ semVal (cell c 5 t) 0)

theorem tgt_r (c : Dev nD) (t : Fin 7) : tgt c (2 * t.val) = (rot c 1, 1, t) := by
  unfold tgt
  have := t.isLt
  rw [if_pos (by omega), if_pos (by omega)]
  refine Prod.ext rfl (Prod.ext rfl (Fin.ext ?_))
  show (2 * t.val / 2) % 7 = t.val
  omega
theorem tgt_l (c : Dev nD) (t : Fin 7) : tgt c (2 * t.val + 1) = (rot c 7, 5, t) := by
  unfold tgt
  have := t.isLt
  rw [if_pos (by omega), if_neg (by omega)]
  refine Prod.ext rfl (Prod.ext rfl (Fin.ext ?_))
  show ((2 * t.val + 1) / 2) % 7 = t.val
  omega

theorem rsSend_spec (c : Dev nD) (t : Fin 7) :
    iprop(recs X W K ∗ sendRes c t ∗ own1 c svrM (sR X W t.val c) ∗ own1 c svlM (sL X W t.val c) ∗ slots (rot c (8 - t.val)) t.val ∗ ow c (owed c (2 * t.val)))
      ⊢ iprop(((sendCr c t ∗ ow c (owed c (2 * t.val + 2))) -∗ WP c (kk ⟨⟩) Q) -∗ WP c (rsSend c t >>= kk) Q) := by
  unfold rsSend sendRes sendCr
  simp only [bind_assoc]
  iintro ⟨#HR, ⟨T0, T1, T4, T5, HdR, HdL⟩, Hr, Hl, HS, Ho⟩ Hk
  have ht := t.isLt
  iapply (sendTo (X := X) (W := W) (K := K) (q := fullShare) (rot c 1) 0 1 t (2 * t.val) (slots (rot c (8 - t.val)) t.val) (next_eq c) (s9 t) (s10 t) (by omega) (tgt_r c t) rfl (creditB _)
    (Y := sR X W t.val c) .rfl (Entails.of_eq (by
      show _ = iprop(own1 (rot c 1) (recvR t) (sR X W t.val (rot (rot c 1) 7)) ∗ slots (rot (rot c 1) (7 - t.val)) t.val)
      rw [rot_rot, rot_rot, rot_self c (a := 1 + 7) rfl, show 1 + (7 - t.val) = 8 - t.val by omega]))) $$ [Hr HdR HS Ho T0 T1]
  · isplitr; · iexact HR
    isplitl [Hr]; · iexact Hr
    isplitl [HdR]; · iexact HdR
    isplitl [HS]; · iexact HS
    isplitl [Ho]; · iexact Ho
    isplitl [T0]; · iexact T0
    iexact T1
  iintro ⟨C0, Ho⟩
  iapply (sendTo (X := X) (W := W) (K := K) (q := fullShare) (rot c 7) 4 5 t (2 * t.val + 1) iprop(emp) (prev_eq c) (s13 t) (s14 t) (by omega) (tgt_l c t) rfl (creditB _)
    (Y := sL X W t.val c) .rfl (by
      show _ ⊢ own1 (rot c 7) (recvL t) (sL X W t.val (rot (rot c 7) 1))
      rw [rot_rot, rot_self c (a := 7 + 1) rfl]
      iintro ⟨H, -⟩; iexact H)) $$ [Hl HdL Ho T4 T5]
  · isplitr; · iexact HR
    isplitl [Hl]; · iexact Hl
    isplitl [HdL]; · iexact HdL
    isplitr; · iempintro
    isplitl [Ho]; · iexact Ho
    isplitl [T4]; · iexact T4
    iexact T5
  iintro ⟨C4, Ho⟩
  iapply Hk
  isplitl [C0 C4]
  · isplitl [C0]; · iexact C0
    iexact C4
  iexact Ho

theorem below_rs (t : Fin 7) (k : Fin 10) (hk : lvk k t = t.val + 1) : ∀ i, 2 * t.val + 2 ≤ i → i < 35 → lvk k t < lvi i := by
  intro i h1 h2
  have := t.isLt
  rw [hk]; unfold lvi; split_ifs <;> omega

theorem pay0 (c : Dev nD) (t : Fin 7) : pay X W c 0 t ⊢ own1 c svrM (sR X W t.val c) := Entails.of_eq rfl
theorem pay1 (c : Dev nD) (t : Fin 7) : pay X W c 1 t ⊢ iprop(own1 c (recvR t) (sR X W t.val (rot c 7)) ∗ slots (rot c (7 - t.val)) t.val) := Entails.of_eq rfl
theorem pay4 (c : Dev nD) (t : Fin 7) : pay X W c 4 t ⊢ own1 c svlM (sL X W t.val c) := Entails.of_eq rfl
theorem pay5 (c : Dev nD) (t : Fin 7) : pay X W c 5 t ⊢ own1 c (recvL t) (sL X W t.val (rot c 1)) := Entails.of_eq rfl

theorem rsWait_spec (c : Dev nD) (t : Fin 7) :
    iprop(recs X W K ∗ waitRes c t ∗ sendCr c t ∗ ow c (owed c (2 * t.val + 2)))
      ⊢ iprop(((ow c (owed c (2 * t.val + 2)) ∗ zeros c t ∗ own1 c svrM (sR X W t.val c) ∗ (own1 c (recvR t) (sR X W t.val (rot c 7)) ∗ slots (rot c (7 - t.val)) t.val)
            ∗ own1 c svlM (sL X W t.val c) ∗ own1 c (recvL t) (sL X W t.val (rot c 1)))
          -∗ WP c (kk ⟨⟩) Q) -∗ WP c (rsWait t >>= kk) Q) := by
  unfold rsWait waitRes sendCr zeros
  simp only [bind_assoc]
  iintro ⟨#HR, ⟨A0, A1, A4, A5, C1, C5⟩, ⟨C0, C4⟩, Ho⟩ Hk
  iapply (waitFor (X := X) (W := W) (K := K) 0 t (2 * t.val + 2) (s9 t) (creditB _) (below_rs t 0 rfl)) $$ [C0 Ho A0]
  · isplitr; · iexact HR
    isplitl [C0]; · iexact C0
    isplitl [Ho]; · iexact Ho
    iexact A0
  iintro ⟨Ho, Z0, P0⟩
  iapply (waitFor (X := X) (W := W) (K := K) 1 t (2 * t.val + 2) (s10 t) (creditB _) (below_rs t 1 rfl)) $$ [C1 Ho A1]
  · isplitr; · iexact HR
    isplitl [C1]; · iexact C1
    isplitl [Ho]; · iexact Ho
    iexact A1
  iintro ⟨Ho, Z1, P1⟩
  iapply (waitFor (X := X) (W := W) (K := K) 4 t (2 * t.val + 2) (s13 t) (creditB _) (below_rs t 4 rfl)) $$ [C4 Ho A4]
  · isplitr; · iexact HR
    isplitl [C4]; · iexact C4
    isplitl [Ho]; · iexact Ho
    iexact A4
  iintro ⟨Ho, Z4, P4⟩
  iapply (waitFor (X := X) (W := W) (K := K) 5 t (2 * t.val + 2) (s14 t) (creditB _) (below_rs t 5 rfl)) $$ [C5 Ho A5]
  · isplitr; · iexact HR
    isplitl [C5]; · iexact C5
    isplitl [Ho]; · iexact Ho
    iexact A5
  iintro ⟨Ho, Z5, P5⟩
  iapply Hk
  isplitl [Ho]; · iexact Ho
  isplitl [Z0 Z1 Z4 Z5]
  · isplitl [Z0]; · iexact Z0
    isplitl [Z1]; · iexact Z1
    isplitl [Z4]; · iexact Z4
    iexact Z5
  isplitl [P0]; · iapply (pay0 c t) $$ P0
  isplitl [P1]; · iapply (pay1 c t) $$ P1
  isplitl [P4]; · iapply (pay4 c t) $$ P4
  iapply (pay5 c t) $$ P5

theorem rsRecv_spec (c : Dev nD) (t : Fin 7) (b : Fin 2) :
    iprop(recs X W K ∗ waitRes c t ∗ sendCr c t ∗ ow c (owed c (2 * t.val + 2)) ∗ own_ c rvrM ∗ own_ c rvlM ∗ semVal ((c : Thread nD τ), .dma csem) 0
        ∗ pcAt c b (pR X W c (Fin.ofNat 8 (t.val + 1))) (pL X W c (Fin.ofNat 8 (t.val + 1))))
      ⊢ iprop(((ow c (owed c (2 * t.val + 2)) ∗ zeros c t ∗ slots (rot c (7 - t.val)) t.val ∗ own1 c svrM (sR X W (t.val + 1) c) ∗ own1 c svlM (sL X W (t.val + 1) c)
            ∗ own_ c rvrM ∗ own_ c rvlM ∗ semVal ((c : Thread nD τ), .dma csem) 0 ∗ own_ c pcM)
          -∗ WP c (kk ⟨⟩) Q) -∗ WP c (rsRecv t b >>= kk) Q) := by
  unfold rsRecv
  simp only [bind_assoc]
  iintro ⟨#HR, HW, HC, Ho, Hvr, Hvl, Hcs, Hpc⟩ Hk
  iapply (rsWait_spec (X := X) (W := W) (K := K) c t) $$ [HW HC Ho]
  · isplitr; · iexact HR
    isplitl [HW]; · iexact HW
    isplitl [HC]; · iexact HC
    iexact Ho
  iintro ⟨Ho, HZ, Hsr, ⟨Hrr, HS⟩, Hsl, Hrl⟩
  iapply (copyIn_spec (X := X) (W := W) (K := K) c (2 * t.val + 2) (recvR t) (wx_recvR t) rvrM (Memref.isWhole_whole _).wordExact fullShare _) $$ [Hrr Hvr Hcs Ho]
  · isplitr; · iexact HR
    isplitl [Hrr]; · iexact Hrr
    isplitl [Hvr]; · iexact Hvr
    isplitl [Hcs]; · iexact Hcs
    iexact Ho
  iintro ⟨-, Hvr, Hcs, Ho⟩
  iapply (copyIn_spec (X := X) (W := W) (K := K) c (2 * t.val + 2) (recvL t) (wx_recvL t) rvlM (Memref.isWhole_whole _).wordExact fullShare _) $$ [Hrl Hvl Hcs Ho]
  · isplitr; · iexact HR
    isplitl [Hrl]; · iexact Hrl
    isplitl [Hvl]; · iexact Hvl
    isplitl [Hcs]; · iexact Hcs
    iexact Ho
  iintro ⟨-, Hvl, Hcs, Ho⟩
  iapply (rsAdd_spec c b) $$ [Hpc Hvr Hvl Hsr Hsl]
  · isplitl [Hpc]; · iexact Hpc
    isplitl [Hvr]; · iexact Hvr
    isplitl [Hvl]; · iexact Hvl
    isplitl [Hsr]; · iexists _; iexact Hsr
    iexists _; iexact Hsl
  iintro ⟨Hpc, Hvr, Hvl, Hsr, Hsl⟩
  iapply Hk
  isplitl [Ho]; · iexact Ho
  isplitl [HZ]; · iexact HZ
  isplitl [HS]; · iexact HS
  isplitl [Hsr]; · iexact Hsr
  isplitl [Hsl]; · iexact Hsl
  isplitl [Hvr]; · iexists _; iexact Hvr
  isplitl [Hvl]; · iexists _; iexact Hvl
  isplitl [Hcs]; · iexact Hcs
  iexact Hpc

/-- Device `c` with its sends of step `t` under way and the products for the step's end in slot `b`. -/
def rsSt (X : Dev nD → S4096x512.Idx → Elt F .bf16) (W : Dev nD → S512x8192.Idx → Elt F .bf16) (c : Dev nD) (t : Fin 7) (b : Fin 2) : PP F :=
  iprop(sendCr c t ∗ ow c (owed c (2 * t.val + 2)) ∗ own_ c rvrM ∗ own_ c rvlM ∗ semVal ((c : Thread nD τ), .dma csem) 0
    ∗ own1 c xM (X c) ∗ own1 c wM (W c) ∗ pcAt c b (pR X W c (Fin.ofNat 8 (t.val + 1))) (pL X W c (Fin.ofNat 8 (t.val + 1))))

/-- The slot of device `c` at the device `7 - t` places on. -/
abbrev kept (c : Dev nD) (t : Fin 7) : PP F := own_ (F := F) (rot c (7 - t.val)) (axC c)

theorem slots_keep (c : Dev nD) (t : Fin 7) : slots (F := F) (rot c (7 - t.val)) t.val = iprop(kept c t ∗ slots (rot c (7 - t.val)) (t.val + 1)) := by
  have := t.isLt
  rw [slots_step _ _ t.isLt, rot_rot, rot_self c (a := 7 - t.val + (t.val + 1)) (by omega)]

theorem rsStep_spec (c : Dev nD) (t t' : Fin 7) (s : Fin 8) (b b' : Fin 2) (ht : t'.val = t.val + 1) (hs : s = Fin.ofNat 8 (t'.val + 1)) :
    iprop(recs X W K ∗ waitRes c t ∗ sendRes c t' ∗ rsSt X W c t b)
      ⊢ iprop(((rsSt X W c t' b' ∗ zeros c t ∗ kept c t) -∗ WP c (kk ⟨⟩) Q) -∗ WP c (rsStep c t t' s b b' >>= kk) Q) := by
  subst hs
  have htl := t.isLt
  unfold rsStep
  simp only [bind_assoc]
  unfold rsSt
  iintro ⟨#HR, HW, HS', HC, Ho, Hvr, Hvl, Hcs, Hx, Hw, Hpc⟩ Hk
  iapply (rsRecv_spec (X := X) (W := W) (K := K) c t b) $$ [HW HC Ho Hvr Hvl Hcs Hpc]
  · isplitr; · iexact HR
    isplitl [HW]; · iexact HW
    isplitl [HC]; · iexact HC
    isplitl [Ho]; · iexact Ho
    isplitl [Hvr]; · iexact Hvr
    isplitl [Hvl]; · iexact Hvl
    isplitl [Hcs]; · iexact Hcs
    iexact Hpc
  iintro ⟨Ho, HZ, HS, Hsr, Hsl, Hvr, Hvl, Hcs, Hpc⟩
  ihave HS2 := (Entails.of_eq (slots_keep c t)) $$ HS
  icases HS2 with ⟨Hkp, HS⟩
  iapply (rsSend_spec (X := X) (W := W) (K := K) c t') $$ [HS' Hsr Hsl HS Ho]
  · rw [ht, show 8 - (t.val + 1) = 7 - t.val by omega, show 2 * (t.val + 1) = 2 * t.val + 2 by omega]
    isplitr; · iexact HR
    isplitl [HS']; · iexact HS'
    isplitl [Hsr]; · iexact Hsr
    isplitl [Hsl]; · iexact Hsl
    isplitl [HS]; · iexact HS
    iexact Ho
  iintro ⟨HC, Ho⟩
  iapply (pcomp_spec (X := X) (W := W) c _ b') $$ [Hx Hw Hpc]
  · isplitl [Hx]; · iexact Hx
    isplitl [Hw]; · iexact Hw
    iexact Hpc
  iintro ⟨Hx, Hw, Hpc⟩
  iapply Hk
  isplitl [HC Ho Hvr Hvl Hcs Hx Hw Hpc]
  · isplitl [HC]; · iexact HC
    isplitl [Ho]; · iexact Ho
    isplitl [Hvr]; · iexact Hvr
    isplitl [Hvl]; · iexact Hvl
    isplitl [Hcs]; · iexact Hcs
    isplitl [Hx]; · iexact Hx
    isplitl [Hw]; · iexact Hw
    iexact Hpc
  isplitl [HZ]; · iexact HZ
  iexact Hkp

/-- One of each of seven. -/
def all7 (Φ : Fin 7 → PP F) : PP F := iprop(Φ 0 ∗ Φ 1 ∗ Φ 2 ∗ Φ 3 ∗ Φ 4 ∗ Φ 5 ∗ Φ 6)

theorem rsAll_spec (c : Dev nD) :
    iprop(recs X W K ∗ all7 (waitRes c) ∗ all7 (sendRes c) ∗ slots c 0 ∗ ow c (owed c 0) ∗ own1 c xM (X c) ∗ own1 c wM (W c) ∗ own_ c pcM
        ∗ own_ c rvrM ∗ own_ c rvlM ∗ own_ c svrM ∗ own_ c svlM ∗ semVal ((c : Thread nD τ), .dma csem) 0)
      ⊢ iprop(((ow c (owed c 14) ∗ all7 (zeros c) ∗ all7 (kept c) ∗ own1 c xM (X c) ∗ own1 c wM (W c) ∗ own_ c pcM ∗ own_ c rvrM ∗ own_ c rvlM
            ∗ own1 c svrM (sR X W 7 c) ∗ own1 c svlM (sL X W 7 c) ∗ semVal ((c : Thread nD τ), .dma csem) 0) -∗ WP c (kk ⟨⟩) Q)
        -∗ WP c (rsAll c >>= kk) Q) := by
  unfold rsAll all7
  simp only [bind_assoc]
  iintro ⟨#HR, ⟨W0, W1, W2, W3, W4, W5, W6⟩, ⟨S0, S1, S2, S3, S4, S5, S6⟩, HS, Ho, Hx, Hw, Hpc, Hvr, Hvl, Hsr, Hsl, Hcs⟩ Hk
  iapply (pcomp_spec (X := X) (W := W) c 0 0) $$ [Hx Hw Hpc]
  · isplitl [Hx]; · iexact Hx
    isplitl [Hw]; · iexact Hw
    iexact Hpc
  iintro ⟨Hx, Hw, Hpc⟩
  iapply (rsFill_spec c) $$ [Hpc Hsr Hsl]
  · isplitl [Hpc]; · iexact Hpc
    isplitl [Hsr]; · iexact Hsr
    iexact Hsl
  iintro ⟨Hpc, Hsr, Hsl⟩
  iapply (rsSend_spec (X := X) (W := W) (K := K) c 0) $$ [S0 Hsr Hsl HS Ho]
  · isplitr; · iexact HR
    isplitl [S0]; · iexact S0
    isplitl [Hsr]; · iexact Hsr
    isplitl [Hsl]; · iexact Hsl
    isplitl [HS]
    · ihave HS2 := (Entails.of_eq (show slots (F := F) c 0 = slots (rot c (8 - (0 : Fin 7).val)) (0 : Fin 7).val by rw [rot_self c (a := 8 - (0 : Fin 7).val) rfl]; rfl)) $$ HS
      iexact HS2
    iexact Ho
  iintro ⟨HC, Ho⟩
  iapply (pcomp_spec (X := X) (W := W) c 1 1) $$ [Hx Hw Hpc]
  · isplitl [Hx]; · iexact Hx
    isplitl [Hw]; · iexact Hw
    iexact Hpc
  iintro ⟨Hx, Hw, Hpc⟩
  ihave HT := (show iprop(sendCr c 0 ∗ ow c (owed c (2 * (0 : Fin 7).val + 2)) ∗ own_ c rvrM ∗ own_ c rvlM ∗ semVal ((c : Thread nD τ), .dma csem) 0
      ∗ own1 c xM (X c) ∗ own1 c wM (W c) ∗ pcAt c 1 (pR X W c 1) (pL X W c 1)) ⊢ rsSt X W c 0 1 from .rfl) $$ [HC Ho Hvr Hvl Hcs Hx Hw Hpc]
  · isplitl [HC]; · iexact HC
    isplitl [Ho]; · iexact Ho
    isplitl [Hvr]; · iexact Hvr
    isplitl [Hvl]; · iexact Hvl
    isplitl [Hcs]; · iexact Hcs
    isplitl [Hx]; · iexact Hx
    isplitl [Hw]; · iexact Hw
    iexact Hpc
  iapply (rsStep_spec (X := X) (W := W) (K := K) c 0 1 2 1 0 rfl rfl) $$ [W0 S1 HT]
  · isplitr; · iexact HR
    isplitl [W0]; · iexact W0
    isplitl [S1]; · iexact S1
    iexact HT
  iintro ⟨HT, Z0, K0⟩
  iapply (rsStep_spec (X := X) (W := W) (K := K) c 1 2 3 0 1 rfl rfl) $$ [W1 S2 HT]
  · isplitr; · iexact HR
    isplitl [W1]; · iexact W1
    isplitl [S2]; · iexact S2
    iexact HT
  iintro ⟨HT, Z1, K1⟩
  iapply (rsStep_spec (X := X) (W := W) (K := K) c 2 3 4 1 0 rfl rfl) $$ [W2 S3 HT]
  · isplitr; · iexact HR
    isplitl [W2]; · iexact W2
    isplitl [S3]; · iexact S3
    iexact HT
  iintro ⟨HT, Z2, K2⟩
  iapply (rsStep_spec (X := X) (W := W) (K := K) c 3 4 5 0 1 rfl rfl) $$ [W3 S4 HT]
  · isplitr; · iexact HR
    isplitl [W3]; · iexact W3
    isplitl [S4]; · iexact S4
    iexact HT
  iintro ⟨HT, Z3, K3⟩
  iapply (rsStep_spec (X := X) (W := W) (K := K) c 4 5 6 1 0 rfl rfl) $$ [W4 S5 HT]
  · isplitr; · iexact HR
    isplitl [W4]; · iexact W4
    isplitl [S5]; · iexact S5
    iexact HT
  iintro ⟨HT, Z4, K4⟩
  iapply (rsStep_spec (X := X) (W := W) (K := K) c 5 6 7 0 1 rfl rfl) $$ [W5 S6 HT]
  · isplitr; · iexact HR
    isplitl [W5]; · iexact W5
    isplitl [S6]; · iexact S6
    iexact HT
  iintro ⟨HT, Z5, K5⟩
  ihave HT2 := (show rsSt X W c 6 1 ⊢ iprop(sendCr c 6 ∗ ow c (owed c (2 * (6 : Fin 7).val + 2)) ∗ own_ c rvrM ∗ own_ c rvlM ∗ semVal ((c : Thread nD τ), .dma csem) 0
      ∗ own1 c xM (X c) ∗ own1 c wM (W c) ∗ pcAt c 1 (pR X W c (Fin.ofNat 8 ((6 : Fin 7).val + 1))) (pL X W c (Fin.ofNat 8 ((6 : Fin 7).val + 1)))) from .rfl) $$ HT
  icases HT2 with ⟨HC, Ho, Hvr, Hvl, Hcs, Hx, Hw, Hpc⟩
  iapply (rsRecv_spec (X := X) (W := W) (K := K) c 6 1) $$ [W6 HC Ho Hvr Hvl Hcs Hpc]
  · isplitr; · iexact HR
    isplitl [W6]; · iexact W6
    isplitl [HC]; · iexact HC
    isplitl [Ho]; · iexact Ho
    isplitl [Hvr]; · iexact Hvr
    isplitl [Hvl]; · iexact Hvl
    isplitl [Hcs]; · iexact Hcs
    iexact Hpc
  iintro ⟨Ho, Z6, HS, Hsr, Hsl, Hvr, Hvl, Hcs, Hpc⟩
  ihave HS2 := (Entails.of_eq (slots_keep c 6)) $$ HS
  icases HS2 with ⟨K6, -⟩
  iapply Hk
  isplitl [Ho]; · iexact Ho
  isplitl [Z0 Z1 Z2 Z3 Z4 Z5 Z6]
  · isplitl [Z0]; · iexact Z0
    isplitl [Z1]; · iexact Z1
    isplitl [Z2]; · iexact Z2
    isplitl [Z3]; · iexact Z3
    isplitl [Z4]; · iexact Z4
    isplitl [Z5]; · iexact Z5
    iexact Z6
  isplitl [K0 K1 K2 K3 K4 K5 K6]
  · isplitl [K0]; · iexact K0
    isplitl [K1]; · iexact K1
    isplitl [K2]; · iexact K2
    isplitl [K3]; · iexact K3
    isplitl [K4]; · iexact K4
    isplitl [K5]; · iexact K5
    iexact K6
  isplitl [Hx]; · iexact Hx
  isplitl [Hw]; · iexact Hw
  isplitl [Hpc]; · iexact Hpc
  isplitl [Hvr]; · iexact Hvr
  isplitl [Hvl]; · iexact Hvl
  isplitl [Hsr]; · iexact Hsr
  isplitl [Hsl]; · iexact Hsl
  iexact Hcs

end Blocks

end Cert.KernelIdeal.Own

end
-- ==== Proof.Gather.lean ====
module

public import proofs.«01_k».proof.Proof.Reduce

@[expose] public section

noncomputable section

/-! # The gathering's blocks and the whole body

The reduced halves written out, the maxima exchanged, the chunks forwarded, quantised and copied to the result; then the body. -/

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

section Blocks

variable {X : Dev nD → S4096x512.Idx → Elt F .bf16} {W : Dev nD → S512x8192.Idx → Elt F .bf16} {K : Ce → ℕ} {α : Type}
variable {kk : PUnit → PF F α} {Q : α → PP F}

/-- A memref's ownership splits into its share's halves, -/
theorem halve (c : Dev nD) {sp : Space} {s : Shape} {e : EltTy} (m : Memref sig .tc sp s e) (q : PosShare TreeShare) (Y : s.Idx → Elt F e) :
    ownsTc c m q Y ⊢ (iprop(ownsTc c m q.left Y ∗ ownsTc c m q.right Y) : PP F) := (owns_halves (c : Thread nD τ) m q Y).1
/-- and joins again. -/
theorem unhalve (c : Dev nD) {sp : Space} {s : Shape} {e : EltTy} (m : Memref sig .tc sp s e) (q : PosShare TreeShare) (Y : s.Idx → Elt F e) :
    iprop(ownsTc c m q.left Y ∗ ownsTc c m q.right Y) ⊢ (ownsTc c m q Y : PP F) := (owns_halves (c : Thread nD τ) m q Y).2

theorem own_spec {kk : F .f32 → PF F α} (c : Dev nD) (n : ℕ) :
    iprop(recs X W K ∗ own1 c svrM (yv X W c 0) ∗ own1 c svlM (yv X W c 1) ∗ own_ c amM ∗ own_ c (yC c 0) ∗ own_ c (yC c 1)
        ∗ semVal ((c : Thread nD τ), .dma csem) 0 ∗ ow c (owed c n))
      ⊢ iprop(((own1 c svrM (yv X W c 0) ∗ own1 c svlM (yv X W c 1) ∗ own1 c amM (am X W c) ∗ own1 c (yC c 0) (yv X W c 0) ∗ own1 c (yC c 1) (yv X W c 1)
            ∗ semVal ((c : Thread nD τ), .dma csem) 0 ∗ ow c (owed c n)) -∗ WP c (kk (mloc X W c)) Q)
        -∗ WP c (own c >>= kk) Q) := by
  unfold own
  simp only [bind_assoc]
  iintro ⟨#HR, Hr, Hl, ⟨%a, Ha⟩, H0, H1, Hcs, Ho⟩ Hk
  iapply (copyOut_spec (X := X) (W := W) (K := K) c n svrM _ (yS (k0_off3 c) (k0_off3_inb c)) _ (yv X W c 0)) $$ [Hr H0 Hcs Ho]
  · rw [y3_eq]
    isplitr; · iexact HR
    isplitl [Hr]; · iexact Hr
    isplitl [H0]; · iexact H0
    isplitl [Hcs]; · iexact Hcs
    iexact Ho
  rw [y3_eq]
  iintro ⟨Hr, H0, Hcs, Ho⟩
  iapply (copyOut_spec (X := X) (W := W) (K := K) c n svlM _ (yS (k0_off4 c) (k0_off4_inb c)) _ (yv X W c 1)) $$ [Hl H1 Hcs Ho]
  · rw [y4_eq]
    isplitr; · iexact HR
    isplitl [Hl]; · iexact Hl
    isplitl [H1]; · iexact H1
    isplitl [Hcs]; · iexact Hcs
    iexact Ho
  rw [y4_eq]
  iintro ⟨Hl, H1, Hcs, Ho⟩
  iapply (ldW zero2) $$ [Hr]
  · iexact Hr
  iintro Hr
  iapply (ldW zero2) $$ [Hl]
  · iexact Hl
  iintro Hl
  iapply (ldW zero2) $$ [Ha]
  · iexact Ha
  iintro Ha
  iapply (stW zero2) $$ [Ha]
  · iexists a; iexact Ha
  iintro Ha
  iapply Hk
  isplitl [Hr]; · iexact Hr
  isplitl [Hl]; · iexact Hl
  isplitl [Ha]; · iexact Ha
  isplitl [H0]; · iexact H0
  isplitl [H1]; · iexact H1
  isplitl [Hcs]; · iexact Hcs
  iexact Ho

/-! ## The maxima -/

/-- What the `k`-th send of the maximum needs: its two duties and the slot it fills. -/
def axPre (c : Dev nD) (k : Fin 7) : PP F :=
  iprop(dutyTok ER (cell c 8 k) 0 () ∗ dutyTok ER (cell (rot c (1 + k.val)) 9 k) 0 () ∗ own_ (rot c (1 + k.val)) (axC c))
/-- What the waits for the `k`-th exchange need. -/
def axW (c : Dev nD) (k : Fin 7) : PP F :=
  iprop(atPos ER (cell c 8 k) 0 ∅ 0 ∗ atPos ER (cell c 9 k) 0 ∅ 0 ∗ cred (tallyAt (cell c 9 k) () (amt 9)))

theorem tgt_a (c : Dev nD) (k : Fin 7) : tgt c (14 + k.val) = (rot c (1 + k.val), 9, k) := by
  unfold tgt
  have := k.isLt
  rw [if_neg (by omega), if_pos (by omega), show 14 + k.val - 14 = k.val by omega]
  refine Prod.ext rfl (Prod.ext rfl (Fin.ext ?_))
  show k.val % 7 = k.val
  omega

/-- What a transfer of 8 by 128 elements is worth. -/
theorem creditA {sp : Space} (m : Memref sig .tc sp S8x128 .f32) : m.view.dmaCredit = NA := rfl

theorem axSend_spec (c : Dev nD) (k : Fin 7) (dev : Dev nD) (hd : dev.val = (c.val + (1 + k.val)) % 8) :
    iprop(recs X W K ∗ axPre c k ∗ ownsTc c amM (qs k.val) (am X W c) ∗ ow c (owed c (14 + k.val)))
      ⊢ iprop(((cred (tallyAt (cell c 8 k) () (amt 8)) ∗ ownsTc c amM (qs (k.val + 1)) (am X W c) ∗ ow c (owed c (14 + k.val + 1))) -∗ WP c (kk ⟨⟩) Q)
        -∗ WP c (axSend c k dev >>= kk) Q) := by
  have hk := k.isLt
  unfold axSend axPre
  iintro ⟨#HR, ⟨T8, T9, Hs⟩, Ha, Ho⟩ Hk
  ihave Ha2 := (halve c amM (qs k.val) (am X W c)) $$ Ha
  icases Ha2 with ⟨Ha, Hb⟩
  iapply (sendTo (X := X) (W := W) (K := K) (q := (qs k.val).left) (rot c (1 + k.val)) 8 9 k (14 + k.val) iprop(emp) (Fin.ext hd) (s17 k) (s18 k) (by omega) (tgt_a c k) rfl (creditA _)
    (Y := am X W c) (Entails.of_eq rfl) (by
      show _ ⊢ own1 (rot c (1 + k.val)) (axC (rot (rot c (1 + k.val)) (7 - k.val))) (am X W (rot (rot c (1 + k.val)) (7 - k.val)))
      rw [rot_rot, rot_self c (a := 1 + k.val + (7 - k.val)) (by omega), ax5_eq]
      iintro ⟨H, -⟩; iexact H)) $$ [Ha Hs Ho T8 T9]
  · rw [ax5_eq]
    isplitr; · iexact HR
    isplitl [Ha]; · iexact Ha
    isplitl [Hs]; · iexact Hs
    isplitr; · iempintro
    isplitl [Ho]; · iexact Ho
    isplitl [T8]; · iexact T8
    iexact T9
  iintro ⟨C, Ho⟩
  iapply Hk
  isplitl [C]; · iexact C
  isplitl [Hb]; · iexact Hb
  iexact Ho

theorem axRecv_spec {kk : F .f32 → PF F α} (c : Dev nD) (k : Fin 7) (m : F .f32) :
    iprop(recs X W K ∗ cred (tallyAt (cell c 9 k) () (amt 9)) ∗ atPos ER (cell c 9 k) 0 ∅ 0 ∗ ow c (owed c 23))
      ⊢ iprop(((ow c (owed c 23) ∗ semVal (cell c 9 k) 0 ∗ own_ c (axC (rot c (7 - k.val))))
          -∗ WP c (kk (mx m (unsq squeezes_S1x8x128_S8x128 (am X W (rot c (7 - k.val)))))) Q)
        -∗ WP c (axRecv c k m >>= kk) Q) := by
  unfold axRecv
  simp only [bind_assoc]
  iintro ⟨#HR, HC, HA, Ho⟩ Hk
  iapply (waitFor (X := X) (W := W) (K := K) (c := c) (src := amM) (dst := axS (k0_off8 c (BitVec.ofNat 32 (1 + k.val))) (k0_off8_inb c k)) (hsrc := (Memref.isWhole_whole _).wordExact) (hdst := (View.wordExact_bits rfl).reshape _ _) 9 k 23 (s18 k) (creditA _) (fun i h1 h2 => by
    show 8 < lvi i
    unfold lvi; split_ifs <;> omega)) $$ [HC Ho HA]
  · isplitr; · iexact HR
    isplitl [HC]; · iexact HC
    isplitl [Ho]; · iexact Ho
    iexact HA
  iintro ⟨Ho, HZ, HP⟩
  ihave HP2 := (Entails.of_eq (show pay X W c 9 k = own1 c (axS (k0_off9 c (BitVec.ofNat 32 (1 + k.val))) (k0_off9_inb c k)) (am X W (rot c (7 - k.val))) by
    rw [ax9_eq]; rfl)) $$ HP
  unfold own1 axS
  iapply (ldSq (c := c) (m := axM) (hr := fun _ => rfl) (hq := squeezes_S1x8x128_S8x128)) $$ [HP2]
  · iexact HP2
  iintro HP2
  have h9 : ownsTc c (axS (k0_off9 c (BitVec.ofNat 32 (1 + k.val))) (k0_off9_inb c k)) fullShare (am X W (rot c (7 - k.val)))
      ⊢ (own_ c (axC (rot c (7 - k.val))) : PP F) := by
    rw [ax9_eq]
    iintro H
    iexists _; iexact H
  unfold axS at h9
  ihave HP3 := h9 $$ HP2
  iapply Hk
  isplitl [Ho]; · iexact Ho
  isplitl [HZ]; · iexact HZ
  iexact HP3

theorem axDone_spec (c : Dev nD) (k : Fin 7) :
    iprop(recs X W K ∗ cred (tallyAt (cell c 8 k) () (amt 8)) ∗ atPos ER (cell c 8 k) 0 ∅ 0 ∗ ow c (owed c 35))
      ⊢ iprop(((ow c (owed c 35) ∗ semVal (cell c 8 k) 0 ∗ ownsTc c amM (qs k.val).left (am X W c)) -∗ WP c (kk ⟨⟩) Q)
        -∗ WP c (axDone c k >>= kk) Q) := by
  unfold axDone
  iintro ⟨#HR, HC, HA, Ho⟩ Hk
  iapply (waitFor (X := X) (W := W) (K := K) (c := c) (src := axS (k0_off5 c) (k0_off5_inb c)) (dst := amM) (hsrc := (View.wordExact_bits rfl).reshape _ _) (hdst := (Memref.isWhole_whole _).wordExact) 8 k 35 (s17 k) (creditA _) (fun i h1 h2 => absurd h2 (Nat.not_lt.mpr h1))) $$ [HC Ho HA]
  · isplitr; · iexact HR
    isplitl [HC]; · iexact HC
    isplitl [Ho]; · iexact Ho
    iexact HA
  iintro ⟨Ho, HZ, HP⟩
  iapply Hk
  isplitl [Ho]; · iexact Ho
  isplitl [HZ]; · iexact HZ
  iapply (Entails.of_eq (show pay X W c 8 k = ownsTc c amM (qs k.val).left (am X W c) from rfl)) $$ HP

theorem axSends_spec (c : Dev nD) :
    iprop(recs X W K ∗ all7 (axPre c) ∗ ownsTc c amM (qs 0) (am X W c) ∗ ow c (owed c 14))
      ⊢ iprop(((all7 (fun k => cred (tallyAt (cell c 8 k) () (amt 8))) ∗ ownsTc c amM (qs 7) (am X W c) ∗ ow c (owed c 21)) -∗ WP c (kk ⟨⟩) Q)
        -∗ WP c (axSends c >>= kk) Q) := by
  unfold axSends all7
  simp only [bind_assoc]
  iintro ⟨#HR, ⟨P0, P1, P2, P3, P4, P5, P6⟩, Ha, Ho⟩ Hk
  iapply (axSend_spec (X := X) (W := W) (K := K) c 0 _ (k0_dev15_eq c)) $$ [P0 Ha Ho]
  · isplitr; · iexact HR
    isplitl [P0]; · iexact P0
    isplitl [Ha]; · iexact Ha
    iexact Ho
  iintro ⟨C0, Ha, Ho⟩
  iapply (axSend_spec (X := X) (W := W) (K := K) c 1 _ (k0_dev16_eq c)) $$ [P1 Ha Ho]
  · isplitr; · iexact HR
    isplitl [P1]; · iexact P1
    isplitl [Ha]; · iexact Ha
    iexact Ho
  iintro ⟨C1, Ha, Ho⟩
  iapply (axSend_spec (X := X) (W := W) (K := K) c 2 _ (k0_dev17_eq c)) $$ [P2 Ha Ho]
  · isplitr; · iexact HR
    isplitl [P2]; · iexact P2
    isplitl [Ha]; · iexact Ha
    iexact Ho
  iintro ⟨C2, Ha, Ho⟩
  iapply (axSend_spec (X := X) (W := W) (K := K) c 3 _ (k0_dev18_eq c)) $$ [P3 Ha Ho]
  · isplitr; · iexact HR
    isplitl [P3]; · iexact P3
    isplitl [Ha]; · iexact Ha
    iexact Ho
  iintro ⟨C3, Ha, Ho⟩
  iapply (axSend_spec (X := X) (W := W) (K := K) c 4 _ (k0_dev19_eq c)) $$ [P4 Ha Ho]
  · isplitr; · iexact HR
    isplitl [P4]; · iexact P4
    isplitl [Ha]; · iexact Ha
    iexact Ho
  iintro ⟨C4, Ha, Ho⟩
  iapply (axSend_spec (X := X) (W := W) (K := K) c 5 _ (k0_dev20_eq c)) $$ [P5 Ha Ho]
  · isplitr; · iexact HR
    isplitl [P5]; · iexact P5
    isplitl [Ha]; · iexact Ha
    iexact Ho
  iintro ⟨C5, Ha, Ho⟩
  iapply (axSend_spec (X := X) (W := W) (K := K) c 6 _ (k0_dev21_eq c)) $$ [P6 Ha Ho]
  · isplitr; · iexact HR
    isplitl [P6]; · iexact P6
    isplitl [Ha]; · iexact Ha
    iexact Ho
  iintro ⟨C6, Ha, Ho⟩
  iapply Hk
  isplitl [C0 C1 C2 C3 C4 C5 C6]
  · isplitl [C0]; · iexact C0
    isplitl [C1]; · iexact C1
    isplitl [C2]; · iexact C2
    isplitl [C3]; · iexact C3
    isplitl [C4]; · iexact C4
    isplitl [C5]; · iexact C5
    iexact C6
  isplitl [Ha]; · iexact Ha
  iexact Ho

/-- What a wait for the `k`-th incoming maximum needs, -/
def axIn (c : Dev nD) (k : Fin 7) : PP F := iprop(cred (tallyAt (cell c 9 k) () (amt 9)) ∗ atPos ER (cell c 9 k) 0 ∅ 0)
/-- and gives; -/
def axGot (c : Dev nD) (k : Fin 7) : PP F := iprop(semVal (cell c 9 k) 0 ∗ own_ c (axC (rot c (7 - k.val))))
/-- what the wait for the `k`-th send's end needs, -/
def axBk (c : Dev nD) (k : Fin 7) : PP F := iprop(cred (tallyAt (cell c 8 k) () (amt 8)) ∗ atPos ER (cell c 8 k) 0 ∅ 0)
/-- and gives. -/
def axFin (X : Dev nD → S4096x512.Idx → Elt F .bf16) (W : Dev nD → S512x8192.Idx → Elt F .bf16) (c : Dev nD) (k : Fin 7) : PP F :=
  iprop(semVal (cell c 8 k) 0 ∗ ownsTc c amM (qs k.val).left (am X W c))

theorem axRecv_step {kk : F .f32 → PF F α} (c : Dev nD) (k : Fin 7) :
    iprop(recs X W K ∗ axIn c k ∗ ow c (owed c 23))
      ⊢ iprop(((axGot c k ∗ ow c (owed c 23)) -∗ WP c (kk (mxs X W c (k.val + 1))) Q) -∗ WP c (axRecv c k (mxs X W c k.val) >>= kk) Q) := by
  unfold axIn axGot
  iintro ⟨#HR, ⟨HC, HA⟩, Ho⟩ Hk
  iapply (axRecv_spec (X := X) (W := W) (K := K) c k _) $$ [HC HA Ho]
  · isplitr; · iexact HR
    isplitl [HC]; · iexact HC
    isplitl [HA]; · iexact HA
    iexact Ho
  iintro ⟨Ho, HZ, HS⟩
  iapply Hk
  isplitl [HZ HS]
  · isplitl [HZ]; · iexact HZ
    iexact HS
  iexact Ho

theorem axRecvs_spec {kk : F .f32 → PF F α} (c : Dev nD) :
    iprop(recs X W K ∗ all7 (axIn c) ∗ ow c (owed c 23))
      ⊢ iprop(((all7 (axGot c) ∗ ow c (owed c 23)) -∗ WP c (kk (mxs X W c 7)) Q) -∗ WP c (axRecvs c (mloc X W c) >>= kk) Q) := by
  unfold axRecvs all7
  simp only [bind_assoc]
  iintro ⟨#HR, ⟨P0, P1, P2, P3, P4, P5, P6⟩, Ho⟩ Hk
  iapply (axRecv_step (X := X) (W := W) (K := K) c 0) $$ [P0 Ho]
  · isplitr; · iexact HR
    isplitl [P0]; · iexact P0
    iexact Ho
  iintro ⟨P0, Ho⟩
  iapply (axRecv_step (X := X) (W := W) (K := K) c 1) $$ [P1 Ho]
  · isplitr; · iexact HR
    isplitl [P1]; · iexact P1
    iexact Ho
  iintro ⟨P1, Ho⟩
  iapply (axRecv_step (X := X) (W := W) (K := K) c 2) $$ [P2 Ho]
  · isplitr; · iexact HR
    isplitl [P2]; · iexact P2
    iexact Ho
  iintro ⟨P2, Ho⟩
  iapply (axRecv_step (X := X) (W := W) (K := K) c 3) $$ [P3 Ho]
  · isplitr; · iexact HR
    isplitl [P3]; · iexact P3
    iexact Ho
  iintro ⟨P3, Ho⟩
  iapply (axRecv_step (X := X) (W := W) (K := K) c 4) $$ [P4 Ho]
  · isplitr; · iexact HR
    isplitl [P4]; · iexact P4
    iexact Ho
  iintro ⟨P4, Ho⟩
  iapply (axRecv_step (X := X) (W := W) (K := K) c 5) $$ [P5 Ho]
  · isplitr; · iexact HR
    isplitl [P5]; · iexact P5
    iexact Ho
  iintro ⟨P5, Ho⟩
  iapply (axRecv_step (X := X) (W := W) (K := K) c 6) $$ [P6 Ho]
  · isplitr; · iexact HR
    isplitl [P6]; · iexact P6
    iexact Ho
  iintro ⟨P6, Ho⟩
  iapply Hk
  isplitl [P0 P1 P2 P3 P4 P5 P6]
  · isplitl [P0]; · iexact P0
    isplitl [P1]; · iexact P1
    isplitl [P2]; · iexact P2
    isplitl [P3]; · iexact P3
    isplitl [P4]; · iexact P4
    isplitl [P5]; · iexact P5
    iexact P6
  iexact Ho

theorem axDone_step (c : Dev nD) (k : Fin 7) :
    iprop(recs X W K ∗ axBk c k ∗ ow c (owed c 35))
      ⊢ iprop(((axFin X W c k ∗ ow c (owed c 35)) -∗ WP c (kk ⟨⟩) Q) -∗ WP c (axDone c k >>= kk) Q) := by
  unfold axBk axFin
  iintro ⟨#HR, ⟨HC, HA⟩, Ho⟩ Hk
  iapply (axDone_spec (X := X) (W := W) (K := K) c k) $$ [HC HA Ho]
  · isplitr; · iexact HR
    isplitl [HC]; · iexact HC
    isplitl [HA]; · iexact HA
    iexact Ho
  iintro ⟨Ho, HZ, HS⟩
  iapply Hk
  isplitl [HZ HS]
  · isplitl [HZ]; · iexact HZ
    iexact HS
  iexact Ho

theorem axDones_spec (c : Dev nD) :
    iprop(recs X W K ∗ all7 (axBk c) ∗ ow c (owed c 35))
      ⊢ iprop(((all7 (axFin X W c) ∗ ow c (owed c 35)) -∗ WP c (kk ⟨⟩) Q) -∗ WP c (axDones c >>= kk) Q) := by
  unfold axDones all7
  simp only [bind_assoc]
  iintro ⟨#HR, ⟨P0, P1, P2, P3, P4, P5, P6⟩, Ho⟩ Hk
  iapply (axDone_step (X := X) (W := W) (K := K) c 0) $$ [P0 Ho]
  · isplitr; · iexact HR
    isplitl [P0]; · iexact P0
    iexact Ho
  iintro ⟨P0, Ho⟩
  iapply (axDone_step (X := X) (W := W) (K := K) c 1) $$ [P1 Ho]
  · isplitr; · iexact HR
    isplitl [P1]; · iexact P1
    iexact Ho
  iintro ⟨P1, Ho⟩
  iapply (axDone_step (X := X) (W := W) (K := K) c 2) $$ [P2 Ho]
  · isplitr; · iexact HR
    isplitl [P2]; · iexact P2
    iexact Ho
  iintro ⟨P2, Ho⟩
  iapply (axDone_step (X := X) (W := W) (K := K) c 3) $$ [P3 Ho]
  · isplitr; · iexact HR
    isplitl [P3]; · iexact P3
    iexact Ho
  iintro ⟨P3, Ho⟩
  iapply (axDone_step (X := X) (W := W) (K := K) c 4) $$ [P4 Ho]
  · isplitr; · iexact HR
    isplitl [P4]; · iexact P4
    iexact Ho
  iintro ⟨P4, Ho⟩
  iapply (axDone_step (X := X) (W := W) (K := K) c 5) $$ [P5 Ho]
  · isplitr; · iexact HR
    isplitl [P5]; · iexact P5
    iexact Ho
  iintro ⟨P5, Ho⟩
  iapply (axDone_step (X := X) (W := W) (K := K) c 6) $$ [P6 Ho]
  · isplitr; · iexact HR
    isplitl [P6]; · iexact P6
    iexact Ho
  iintro ⟨P6, Ho⟩
  iapply Hk
  isplitl [P0 P1 P2 P3 P4 P5 P6]
  · isplitl [P0]; · iexact P0
    isplitl [P1]; · iexact P1
    isplitl [P2]; · iexact P2
    isplitl [P3]; · iexact P3
    isplitl [P4]; · iexact P4
    isplitl [P5]; · iexact P5
    iexact P6
  iexact Ho

/-! ## The chunks forwarded -/

/-- What device `c` needs for its forwarding of step `t`. -/
def fwdRes (c : Dev nD) (t : Fin 7) : PP F :=
  iprop(dutyTok ER (cell c 2 t) 0 () ∗ dutyTok ER (cell (rot c 1) 3 t) 0 () ∗ dutyTok ER (cell c 6 t) 0 () ∗ dutyTok ER (cell (rot c 7) 7 t) 0 ()
    ∗ own_ (rot c 1) (yC (rot c (8 - t.val)) 0) ∗ own_ (rot c 7) (yC (rot c t.val) 1))
/-- What it needs for its waits of step `t`. -/
def fwdW (c : Dev nD) (t : Fin 7) : PP F :=
  iprop(atPos ER (cell c 2 t) 0 ∅ 0 ∗ atPos ER (cell c 3 t) 0 ∅ 0 ∗ atPos ER (cell c 6 t) 0 ∅ 0 ∗ atPos ER (cell c 7 t) 0 ∅ 0
    ∗ cred (tallyAt (cell c 3 t) () (amt 3)) ∗ cred (tallyAt (cell c 7 t) () (amt 7)))
/-- What the sends of step `t` leave to wait with. -/
def fwdCr (c : Dev nD) (t : Fin 7) : PP F :=
  iprop(cred (tallyAt (cell c 2 t) () (amt 2)) ∗ cred (tallyAt (cell c 6 t) () (amt 6)))
/-- The four semaphores of step `t`, back at zero. -/
def fwdZ (c : Dev nD) (t : Fin 7) : PP F :=
  iprop(semVal (cell c 2 t) 0 ∗ semVal (cell c 3 t) 0 ∗ semVal (cell c 6 t) 0 ∗ semVal (cell c 7 t) 0)
/-- The two chunks' halves of step `t`, at the share `q`. -/
def chunks (X : Dev nD → S4096x512.Idx → Elt F .bf16) (W : Dev nD → S512x8192.Idx → Elt F .bf16) (c : Dev nD) (n : ℕ) (q : PosShare TreeShare) : PP F :=
  iprop(ownsTc c (yC (rot c (8 - n)) 0) q (yv X W (rot c (8 - n)) 0) ∗ ownsTc c (yC (rot c n) 1) q (yv X W (rot c n) 1))

theorem tgt_fr (c : Dev nD) (t : Fin 7) : tgt c (21 + 2 * t.val) = (rot c 1, 3, t) := by
  unfold tgt
  have := t.isLt
  rw [if_neg (by omega), if_neg (by omega), if_pos (by omega), show 21 + 2 * t.val - 21 = 2 * t.val by omega]
  refine Prod.ext rfl (Prod.ext rfl (Fin.ext ?_))
  show (2 * t.val / 2) % 7 = t.val
  omega
theorem tgt_fl (c : Dev nD) (t : Fin 7) : tgt c (21 + 2 * t.val + 1) = (rot c 7, 7, t) := by
  unfold tgt
  have := t.isLt
  rw [if_neg (by omega), if_neg (by omega), if_neg (by omega), show 21 + 2 * t.val + 1 - 21 = 2 * t.val + 1 by omega]
  refine Prod.ext rfl (Prod.ext rfl (Fin.ext ?_))
  show ((2 * t.val + 1) / 2) % 7 = t.val
  omega

theorem agSend_spec (c : Dev nD) (t : Fin 7) :
    iprop(recs X W K ∗ fwdRes c t ∗ chunks X W c t.val fullShare.left ∗ ow c (owed c (21 + 2 * t.val)))
      ⊢ iprop(((fwdCr c t ∗ ow c (owed c (23 + 2 * t.val))) -∗ WP c (kk ⟨⟩) Q) -∗ WP c (agSend c t >>= kk) Q) := by
  unfold agSend fwdRes fwdCr chunks
  simp only [bind_assoc]
  iintro ⟨#HR, ⟨T2, T3, T6, T7, HdR, HdL⟩, ⟨Hr, Hl⟩, Ho⟩ Hk
  have ht := t.isLt
  have h6 : agR c t.castSucc = yC (rot c (8 - t.val)) 0 := agR_eq c t.castSucc
  have h7 : agL c t.castSucc = yC (rot c t.val) 1 := agL_eq c t.castSucc
  iapply (sendTo (X := X) (W := W) (K := K) (q := fullShare.left) (rot c 1) 2 3 t (21 + 2 * t.val) iprop(emp) (next_eq c) (s11 t) (s12 t) (by omega) (tgt_fr c t) rfl (creditB _)
    (Y := yv X W (rot c (8 - t.val)) 0) (by rw [h6]; exact Entails.of_eq rfl) (by
      show _ ⊢ own1 (rot c 1) (yC (rot (rot c 1) (7 - t.val)) 0) (yv X W (rot (rot c 1) (7 - t.val)) 0)
      rw [rot_rot, show 1 + (7 - t.val) = 8 - t.val by omega, h6]
      iintro ⟨H, -⟩; iexact H)) $$ [Hr HdR Ho T2 T3]
  · rw [h6]
    isplitr; · iexact HR
    isplitl [Hr]; · iexact Hr
    isplitl [HdR]; · iexact HdR
    isplitr; · iempintro
    isplitl [Ho]; · iexact Ho
    isplitl [T2]; · iexact T2
    iexact T3
  iintro ⟨C2, Ho⟩
  iapply (sendTo (X := X) (W := W) (K := K) (q := fullShare.left) (rot c 7) 6 7 t (21 + 2 * t.val + 1) iprop(emp) (prev_eq c) (s15 t) (s16 t) (by omega) (tgt_fl c t) rfl (creditB _)
    (Y := yv X W (rot c t.val) 1) (by rw [h7]; exact Entails.of_eq rfl) (by
      show _ ⊢ own1 (rot c 7) (yC (rot (rot c 7) (t.val + 1)) 1) (yv X W (rot (rot c 7) (t.val + 1)) 1)
      rw [rot_rot, rot_eq c (a := 7 + (t.val + 1)) (b := t.val) (by omega), h7]
      iintro ⟨H, -⟩; iexact H)) $$ [Hl HdL Ho T6 T7]
  · rw [h7]
    isplitr; · iexact HR
    isplitl [Hl]; · iexact Hl
    isplitl [HdL]; · iexact HdL
    isplitr; · iempintro
    isplitl [Ho]; · iexact Ho
    isplitl [T6]; · iexact T6
    iexact T7
  iintro ⟨C6, Ho⟩
  iapply Hk
  rw [show 21 + 2 * t.val + 1 + 1 = 23 + 2 * t.val by omega]
  isplitl [C2 C6]
  · isplitl [C2]; · iexact C2
    iexact C6
  iexact Ho

theorem below_ag (t : Fin 7) (k : Fin 10) (hk : lvk k t = 9 + t.val) : ∀ i, 23 + 2 * t.val ≤ i → i < 35 → lvk k t < lvi i := by
  intro i h1 h2
  have := t.isLt
  rw [hk]; unfold lvi; split_ifs <;> omega

theorem pay37 (c : Dev nD) (t : Fin 7) : iprop(pay X W c 3 t ∗ pay X W c 7 t) ⊢ chunks X W c (t.val + 1) fullShare := by
  have ht := t.isLt
  unfold chunks
  rw [show 8 - (t.val + 1) = 7 - t.val by omega]
  exact Entails.of_eq rfl

theorem agWait_spec (c : Dev nD) (t : Fin 7) :
    iprop(recs X W K ∗ fwdW c t ∗ fwdCr c t ∗ ow c (owed c (23 + 2 * t.val)))
      ⊢ iprop(((ow c (owed c (23 + 2 * t.val)) ∗ fwdZ c t ∗ chunks X W c (t.val + 1) fullShare) -∗ WP c (kk ⟨⟩) Q) -∗ WP c (agWait c t >>= kk) Q) := by
  unfold agWait fwdW fwdCr fwdZ
  simp only [bind_assoc]
  iintro ⟨#HR, ⟨A0, A1, A4, A5, C1, C5⟩, ⟨C0, C4⟩, Ho⟩ Hk
  iapply (waitFor (X := X) (W := W) (K := K) 2 t (23 + 2 * t.val) (s11 t) (creditB _) (below_ag t 2 rfl)) $$ [C0 Ho A0]
  · isplitr; · iexact HR
    isplitl [C0]; · iexact C0
    isplitl [Ho]; · iexact Ho
    iexact A0
  iintro ⟨Ho, Z0, -⟩
  iapply (waitFor (X := X) (W := W) (K := K) 3 t (23 + 2 * t.val) (s12 t) (creditB _) (below_ag t 3 rfl)) $$ [C1 Ho A1]
  · isplitr; · iexact HR
    isplitl [C1]; · iexact C1
    isplitl [Ho]; · iexact Ho
    iexact A1
  iintro ⟨Ho, Z1, P1⟩
  iapply (waitFor (X := X) (W := W) (K := K) 6 t (23 + 2 * t.val) (s15 t) (creditB _) (below_ag t 6 rfl)) $$ [C4 Ho A4]
  · isplitr; · iexact HR
    isplitl [C4]; · iexact C4
    isplitl [Ho]; · iexact Ho
    iexact A4
  iintro ⟨Ho, Z4, -⟩
  iapply (waitFor (X := X) (W := W) (K := K) 7 t (23 + 2 * t.val) (s16 t) (creditB _) (below_ag t 7 rfl)) $$ [C5 Ho A5]
  · isplitr; · iexact HR
    isplitl [C5]; · iexact C5
    isplitl [Ho]; · iexact Ho
    iexact A5
  iintro ⟨Ho, Z5, P5⟩
  iapply Hk
  isplitl [Ho]; · iexact Ho
  isplitl [Z0 Z1 Z4 Z5]
  · isplitl [Z0]; · iexact Z0
    isplitl [Z1]; · iexact Z1
    isplitl [Z4]; · iexact Z4
    iexact Z5
  iapply (pay37 c t) $$ [P1 P5]
  isplitl [P1]; · iexact P1
  iexact P5

/-! ## Quantised rows to the result -/

/-- The two semaphores of the copies to the result. -/
abbrev qsem0 : DmaSem sig := SemArray.sem ((SemArray.slice cc0_scratch20 (Rect.unit (s := S2) ![0] S1.size inb_S2_S1_0)).squeeze S_ squeezes_S1_S_)
abbrev qsem1 : DmaSem sig := SemArray.sem ((SemArray.slice cc0_scratch20 (Rect.unit (s := S2) ![1] S1.size inb_S2_S1_1)).squeeze S_ squeezes_S1_S_)

/-- What the copies to the result count. -/
def NQ : ℕ := (qvrM : Memref sig .tc .vmem S256x4096 .f32).view.dmaCredit
theorem NQ_pos : 0 < NQ := View.dmaCredit_pos _ (by decide)
theorem creditQ {sp : Space} (m : Memref sig .tc sp S256x4096 .f32) : m.view.dmaCredit = NQ := rfl
theorem amountQ {sp : Space} (m : Memref sig .tc sp S256x4096 .f32) (s : DmaSem sig) : m.view.amount (.dma s) = NQ := rfl

/-- The buffers and semaphores of the copies to the result. -/
def qRes (c : Dev nD) : PP F :=
  iprop(own_ c qvrM ∗ own_ c qvlM ∗ semVal ((c : Thread nD τ), .dma qsem0) 0 ∗ semVal ((c : Thread nD τ), .dma qsem1) 0)

/-- Rows half `b` of half a chunk. -/
def rowsH (A : S512x4096.Idx → Elt F .bf16) (b : Fin 2) : S256x4096.Idx → Elt F .bf16 :=
  fun i => A ((Rect.unit (s := S512x4096) ![256 * b.val, 0] S256x4096.size (by revert b; decide)).emb i)

theorem quantH_spec (c : Dev nD) (n : ℕ) (b : Fin 2) (rM lM : Memref sig .tc .vmem S512x4096 .bf16) (roff : Fin 2 → Nat) (rinb : ∀ a, roff a + S256x4096.size a ≤ S512x4096.size a)
    (hro : roff = ![256 * b.val, 0]) (o o' : Memref sig .tc .hbm S256x4096 .f32) (ho : o.view.WordExact) (ho' : o'.view.WordExact) (sc ri : F .f32)
    (A B : S512x4096.Idx → Elt F .bf16) :
    iprop(recs X W K ∗ own1 c rM A ∗ own1 c lM B ∗ qRes c ∗ own_ c o ∗ own_ c o' ∗ ow c (owed c n))
      ⊢ iprop(((own1 c rM A ∗ own1 c lM B ∗ qRes c ∗ own1 c o (k0_pay52 sc ri (rowsH A b)) ∗ own1 c o' (k0_pay52 sc ri (rowsH B b)) ∗ ow c (owed c n)) -∗ WP c (kk ⟨⟩) Q)
        -∗ WP c (quantH rM lM roff rinb o o' ho ho' sc ri >>= kk) Q) := by
  subst hro
  unfold quantH qCopy qRes
  simp only [bind_assoc]
  iintro ⟨#HR, Hr, Hl, ⟨⟨%a, Ha⟩, ⟨%b', Hb⟩, Q0, Q1⟩, H0, H1, Ho⟩ Hk
  iapply ld $$ [Hr]
  · iexact Hr
  iintro Hr
  iapply (ldW zero2) $$ [Ha]
  · iexact Ha
  iintro Ha
  iapply (stW zero2) $$ [Ha]
  · iexists a; iexact Ha
  iintro Ha
  iapply ld $$ [Hl]
  · iexact Hl
  iintro Hl
  iapply (ldW zero2) $$ [Hb]
  · iexact Hb
  iintro Hb
  iapply (stW zero2) $$ [Hb]
  · iexists b'; iexact Hb
  iintro Hb
  iapply (startCopy (c := c) (src := qvrM) (dst := o) (q := fullShare) NQ (amountQ _ _) NQ_pos) $$ [Ha H0 Q0]
  · isplitl [Ha]; · iexact Ha
    isplitl [H0]; · iexact H0
    iexact Q0
  iintro F0
  iapply (startCopy (c := c) (src := qvlM) (dst := o') (q := fullShare) NQ (amountQ _ _) NQ_pos) $$ [Hb H1 Q1]
  · isplitl [Hb]; · iexact Hb
    isplitl [H1]; · iexact H1
    iexact Q1
  iintro F1
  ihave HM := (mayWait0 c qsem0 n (by decide)) $$ HR
  iapply (endCopy (c := c) (src := qvrM) (dst := o) (q := fullShare) NQ (creditQ _)) $$ [F0 Ho HM]
  · isplitl [F0]; · iexact F0
    isplitl [Ho]; · iexact Ho
    iexact HM
  iintro ⟨Ha, H0, Q0, Ho⟩
  ihave HM := (mayWait0 c qsem1 n (by decide)) $$ HR
  iapply (endCopy (c := c) (src := qvlM) (dst := o') (q := fullShare) NQ (creditQ _)) $$ [F1 Ho HM]
  · isplitl [F1]; · iexact F1
    isplitl [Ho]; · iexact Ho
    iexact HM
  iintro ⟨Hb, H1, Q1, Ho⟩
  iapply Hk
  isplitl [Hr]; · iexact Hr
  isplitl [Hl]; · iexact Hl
  isplitl [Ha Hb Q0 Q1]
  · isplitl [Ha]; · iexists _; iexact Ha
    isplitl [Hb]; · iexists _; iexact Hb
    isplitl [Q0]; · iexact Q0
    iexact Q1
  isplitl [H0]; · iexact H0
  isplitl [H1]; · iexact H1
  iexact Ho

/-- The four pieces of the result a step writes: both row halves of the right half of chunk `j` and of the left half of chunk `j'`. -/
def out4 (Φ : Dev nD → Fin 2 → Fin 2 → PP F) (j j' : Dev nD) : PP F := iprop(Φ j 0 0 ∗ Φ j' 0 1 ∗ Φ j 1 0 ∗ Φ j' 1 1)
/-- A piece of the result of device `c`, before -/
def outPre (c j : Dev nD) (b h : Fin 2) : PP F := own_ c (outC j b h)
/-- and after it is written. -/
def outPost (X : Dev nD → S4096x512.Idx → Elt F .bf16) (W : Dev nD → S512x8192.Idx → Elt F .bf16) (c j : Dev nD) (b h : Fin 2) : PP F :=
  own1 c (outC j b h) (qv X W c j b h)

/-- Two chunks' halves are quantised and copied to the result. -/
theorem quant_spec (c : Dev nD) (n : ℕ) (rM lM : Memref sig .tc .vmem S512x4096 .bf16) (j j' : Dev nD)
    (o0 o0' o1 o1' : Memref sig .tc .hbm S256x4096 .f32) (h0 : o0 = outC j 0 0) (h0' : o0' = outC j' 0 1) (h1 : o1 = outC j 1 0) (h1' : o1' = outC j' 1 1)
    (e0 : o0.view.WordExact) (e0' : o0'.view.WordExact) (e1 : o1.view.WordExact) (e1' : o1'.view.WordExact) :
    iprop(recs X W K ∗ own1 c rM (yv X W j 0) ∗ own1 c lM (yv X W j' 1) ∗ qRes c ∗ out4 (outPre c) j j' ∗ ow c (owed c n))
      ⊢ iprop(((own1 c rM (yv X W j 0) ∗ own1 c lM (yv X W j' 1) ∗ qRes c ∗ out4 (outPost X W c) j j' ∗ ow c (owed c n)) -∗ WP c (kk ⟨⟩) Q)
        -∗ WP c (quantH rM lM ![0, 0] inb_S512x4096_S256x4096_0_0 o0 o0' e0 e0' (sca X W c) (rinvOf (sca X W c)) >>= fun _ =>
            quantH rM lM ![256, 0] inb_S512x4096_S256x4096_256_0 o1 o1' e1 e1' (sca X W c) (rinvOf (sca X W c)) >>= kk) Q) := by
  subst h0 h0' h1 h1'
  unfold out4 outPre outPost
  iintro ⟨#HR, Hr, Hl, HQ, ⟨O0, O0', O1, O1'⟩, Ho⟩ Hk
  iapply (quantH_spec (X := X) (W := W) (K := K) c n 0 rM lM _ _ rfl _ _ _ _ _ _ (yv X W j 0) (yv X W j' 1)) $$ [Hr Hl HQ O0 O0' Ho]
  · isplitr; · iexact HR
    isplitl [Hr]; · iexact Hr
    isplitl [Hl]; · iexact Hl
    isplitl [HQ]; · iexact HQ
    isplitl [O0]; · iexact O0
    isplitl [O0']; · iexact O0'
    iexact Ho
  iintro ⟨Hr, Hl, HQ, O0, O0', Ho⟩
  iapply (quantH_spec (X := X) (W := W) (K := K) c n 1 rM lM _ _ rfl _ _ _ _ _ _ (yv X W j 0) (yv X W j' 1)) $$ [Hr Hl HQ O1 O1' Ho]
  · isplitr; · iexact HR
    isplitl [Hr]; · iexact Hr
    isplitl [Hl]; · iexact Hl
    isplitl [HQ]; · iexact HQ
    isplitl [O1]; · iexact O1
    isplitl [O1']; · iexact O1'
    iexact Ho
  iintro ⟨Hr, Hl, HQ, O1, O1', Ho⟩
  iapply Hk
  isplitl [Hr]; · iexact Hr
  isplitl [Hl]; · iexact Hl
  isplitl [HQ]; · iexact HQ
  isplitl [O0 O0' O1 O1']
  · isplitl [O0]; · iexact O0
    isplitl [O0']; · iexact O0'
    isplitl [O1]; · iexact O1
    iexact O1'
  iexact Ho

/-- What a step of the gathering leaves for the next: the buffers and semaphores of its copies. -/
def agSt (c : Dev nD) : PP F := iprop(own_ c rvrM ∗ own_ c rvlM ∗ semVal ((c : Thread nD τ), .dma csem) 0 ∗ qRes c)

theorem agStep_spec (c : Dev nD) (t : Fin 7) (nxt : PF F PUnit) (n : ℕ) (R R' : PP F)
    (hn : ∀ (kk : PUnit → PF F α), iprop(recs X W K ∗ R ∗ chunks X W c (t.val + 1) fullShare.left ∗ ow c (owed c (23 + 2 * t.val)))
      ⊢ iprop(((R' ∗ ow c (owed c n)) -∗ WP c (kk ⟨⟩) Q) -∗ WP c (nxt >>= kk) Q)) :
    iprop(recs X W K ∗ fwdW c t ∗ fwdCr c t ∗ R ∗ agSt c ∗ out4 (outPre c) (rot c (7 - t.val)) (rot c (t.val + 1)) ∗ ow c (owed c (23 + 2 * t.val)))
      ⊢ iprop(((fwdZ c t ∗ R' ∗ agSt c ∗ out4 (outPost X W c) (rot c (7 - t.val)) (rot c (t.val + 1)) ∗ ow c (owed c n)) -∗ WP c (kk ⟨⟩) Q)
        -∗ WP c (agStep c t nxt (sca X W c) (rinvOf (sca X W c)) >>= kk) Q) := by
  have ht := t.isLt
  have h6 : agR c t.succ = yC (rot c (8 - (t.val + 1))) 0 := agR_eq c t.succ
  have h7 : agL c t.succ = yC (rot c (t.val + 1)) 1 := agL_eq c t.succ
  unfold agStep agSt
  simp only [bind_assoc]
  iintro ⟨#HR, HW, HC, HN, ⟨Hvr, Hvl, Hcs, HQ⟩, HO, Ho⟩ Hk
  iapply (agWait_spec (X := X) (W := W) (K := K) c t) $$ [HW HC Ho]
  · isplitr; · iexact HR
    isplitl [HW]; · iexact HW
    isplitl [HC]; · iexact HC
    iexact Ho
  iintro ⟨Ho, HZ, HY⟩
  unfold chunks
  icases HY with ⟨Y0, Y1⟩
  ihave Y0 := (halve c (yC (rot c (8 - (t.val + 1))) 0) fullShare _) $$ Y0
  icases Y0 with ⟨Y0, Y0'⟩
  ihave Y1 := (halve c (yC (rot c (t.val + 1)) 1) fullShare _) $$ Y1
  icases Y1 with ⟨Y1, Y1'⟩
  iapply (hn _) $$ [HN Y0 Y1 Ho]
  · isplitr; · iexact HR
    isplitl [HN]; · iexact HN
    isplitl [Y0 Y1]
    · unfold chunks
      isplitl [Y0]; · iexact Y0
      iexact Y1
    iexact Ho
  iintro ⟨HN, Ho⟩
  iapply (copyIn_spec (X := X) (W := W) (K := K) c n (agR c t.succ) (wx_agR c _) rvrM (Memref.isWhole_whole _).wordExact fullShare.right (yv X W (rot c (8 - (t.val + 1))) 0)) $$ [Y0' Hvr Hcs Ho]
  · rw [h6]
    isplitr; · iexact HR
    isplitl [Y0']; · iexact Y0'
    isplitl [Hvr]; · iexact Hvr
    isplitl [Hcs]; · iexact Hcs
    iexact Ho
  iintro ⟨-, Hvr, Hcs, Ho⟩
  iapply (copyIn_spec (X := X) (W := W) (K := K) c n (agL c t.succ) (wx_agL c _) rvlM (Memref.isWhole_whole _).wordExact fullShare.right (yv X W (rot c (t.val + 1)) 1)) $$ [Y1' Hvl Hcs Ho]
  · rw [h7]
    isplitr; · iexact HR
    isplitl [Y1']; · iexact Y1'
    isplitl [Hvl]; · iexact Hvl
    isplitl [Hcs]; · iexact Hcs
    iexact Ho
  iintro ⟨-, Hvl, Hcs, Ho⟩
  rw [show 8 - (t.val + 1) = 7 - t.val by omega]
  iapply (quant_spec (X := X) (W := W) (K := K) c n rvrM rvlM (rot c (7 - t.val)) (rot c (t.val + 1)) _ _ _ _
    (out12_eq c t 0) (out13_eq c t 0) (out12_eq c t 1) (out13_eq c t 1)) $$ [Hvr Hvl HQ HO Ho]
  · isplitr; · iexact HR
    isplitl [Hvr]; · iexact Hvr
    isplitl [Hvl]; · iexact Hvl
    isplitl [HQ]; · iexact HQ
    isplitl [HO]; · iexact HO
    iexact Ho
  iintro ⟨Hvr, Hvl, HQ, HO, Ho⟩
  iapply Hk
  isplitl [HZ]; · iexact HZ
  isplitl [HN]; · iexact HN
  isplitl [Hvr Hvl Hcs HQ]
  · isplitl [Hvr]; · iexists _; iexact Hvr
    isplitl [Hvl]; · iexists _; iexact Hvl
    isplitl [Hcs]; · iexact Hcs
    iexact HQ
  isplitl [HO]; · iexact HO
  iexact Ho

/-- A step that forwards what came. -/
theorem agStep_fwd (c : Dev nD) (t t' : Fin 7) (ht : t'.val = t.val + 1) :
    iprop(recs X W K ∗ fwdW c t ∗ fwdRes c t' ∗ fwdCr c t ∗ agSt c ∗ out4 (outPre c) (rot c (7 - t.val)) (rot c (t.val + 1)) ∗ ow c (owed c (23 + 2 * t.val)))
      ⊢ iprop(((fwdZ c t ∗ fwdCr c t' ∗ agSt c ∗ out4 (outPost X W c) (rot c (7 - t.val)) (rot c (t.val + 1)) ∗ ow c (owed c (23 + 2 * t'.val))) -∗ WP c (kk ⟨⟩) Q)
        -∗ WP c (agStep c t (agSend c t') (sca X W c) (rinvOf (sca X W c)) >>= kk) Q) := by
  iintro ⟨#HR, HW, HF, HC, HS, HO, Ho⟩ Hk
  iapply (agStep_spec (X := X) (W := W) (K := K) c t (agSend c t') (23 + 2 * t'.val) (fwdRes c t') (fwdCr c t') (fun kk => by
    have := agSend_spec (X := X) (W := W) (K := K) (kk := kk) (Q := Q) c t'
    rw [ht] at this ⊢
    rw [show 21 + 2 * (t.val + 1) = 23 + 2 * t.val by omega] at this
    exact this)) $$ [HW HF HC HS HO Ho]
  · isplitr; · iexact HR
    isplitl [HW]; · iexact HW
    isplitl [HC]; · iexact HC
    isplitl [HF]; · iexact HF
    isplitl [HS]; · iexact HS
    isplitl [HO]; · iexact HO
    iexact Ho
  iexact Hk

/-- The last step forwards nothing. -/
theorem agStep_last (c : Dev nD) :
    iprop(recs X W K ∗ fwdW c 6 ∗ fwdCr c 6 ∗ agSt c ∗ out4 (outPre c) (rot c (7 - (6 : Fin 7).val)) (rot c ((6 : Fin 7).val + 1)) ∗ ow c (owed c 35))
      ⊢ iprop(((fwdZ c 6 ∗ agSt c ∗ out4 (outPost X W c) (rot c (7 - (6 : Fin 7).val)) (rot c ((6 : Fin 7).val + 1)) ∗ ow c (owed c 35)) -∗ WP c (kk ⟨⟩) Q)
        -∗ WP c (agStep c 6 (pure ⟨⟩) (sca X W c) (rinvOf (sca X W c)) >>= kk) Q) := by
  iintro ⟨#HR, HW, HC, HS, HO, Ho⟩ Hk
  iapply (agStep_spec (X := X) (W := W) (K := K) c 6 (pure ⟨⟩) 35 iprop(emp) iprop(emp) (fun kk => by
    simp only [pure_bind]
    iintro ⟨-, -, -, Ho⟩ Hk
    iapply Hk
    isplitr; · iempintro
    iexact Ho)) $$ [HW HC HS HO Ho]
  · isplitr; · iexact HR
    isplitl [HW]; · iexact HW
    isplitl [HC]; · iexact HC
    isplitr; · iempintro
    isplitl [HS]; · iexact HS
    isplitl [HO]; · iexact HO
    iexact Ho
  iintro ⟨HZ, -, HS, HO, Ho⟩
  iapply Hk
  isplitl [HZ]; · iexact HZ
  isplitl [HS]; · iexact HS
  isplitl [HO]; · iexact HO
  iexact Ho

/-- The four pieces of step `t` of the gathering. -/
abbrev outT (Φ : Dev nD → Fin 2 → Fin 2 → PP F) (c : Dev nD) (t : Fin 7) : PP F := out4 Φ (rot c (7 - t.val)) (rot c (t.val + 1))

theorem agAll_spec (c : Dev nD) :
    iprop(recs X W K ∗ own1 c svrM (yv X W c 0) ∗ own1 c svlM (yv X W c 1) ∗ all7 (fwdW c)
        ∗ (fwdRes c 1 ∗ fwdRes c 2 ∗ fwdRes c 3 ∗ fwdRes c 4 ∗ fwdRes c 5 ∗ fwdRes c 6) ∗ fwdCr c 0 ∗ agSt c
        ∗ out4 (outPre c) c c ∗ all7 (outT (outPre c) c) ∗ ow c (owed c 23))
      ⊢ iprop(((own1 c svrM (yv X W c 0) ∗ own1 c svlM (yv X W c 1) ∗ all7 (fwdZ c) ∗ agSt c
            ∗ out4 (outPost X W c) c c ∗ all7 (outT (outPost X W c) c) ∗ ow c (owed c 35)) -∗ WP c (kk ⟨⟩) Q)
        -∗ WP c (agAll c (sca X W c) (rinvOf (sca X W c)) >>= kk) Q) := by
  unfold agAll all7
  simp only [bind_assoc]
  iintro ⟨#HR, Hr, Hl, ⟨W0, W1, W2, W3, W4, W5, W6⟩, ⟨F1, F2, F3, F4, F5, F6⟩, HC, HS, OO, ⟨O0, O1, O2, O3, O4, O5, O6⟩, Ho⟩ Hk
  ihave HS := (Entails.of_eq (show agSt (F := F) c = iprop(own_ c rvrM ∗ own_ c rvlM ∗ semVal ((c : Thread nD τ), .dma csem) 0 ∗ qRes c) from rfl)) $$ HS
  icases HS with ⟨Hvr, Hvl, Hcs, HQ⟩
  iapply (quant_spec (X := X) (W := W) (K := K) c 23 svrM svlM c c _ _ _ _
    (out10_eq c 0) (out11_eq c 0) (out10_eq c 1) (out11_eq c 1)) $$ [Hr Hl HQ OO Ho]
  · isplitr; · iexact HR
    isplitl [Hr]; · iexact Hr
    isplitl [Hl]; · iexact Hl
    isplitl [HQ]; · iexact HQ
    isplitl [OO]; · iexact OO
    iexact Ho
  iintro ⟨Hr, Hl, HQ, OO, Ho⟩
  ihave HS := (show iprop(own_ c rvrM ∗ own_ c rvlM ∗ semVal ((c : Thread nD τ), .dma csem) 0 ∗ qRes c) ⊢ agSt (F := F) c from Entails.of_eq rfl) $$ [Hvr Hvl Hcs HQ]
  · isplitl [Hvr]; · iexact Hvr
    isplitl [Hvl]; · iexact Hvl
    isplitl [Hcs]; · iexact Hcs
    iexact HQ
  iapply (agStep_fwd (X := X) (W := W) (K := K) c 0 1 rfl) $$ [W0 F1 HC HS O0 Ho]
  · isplitr; · iexact HR
    isplitl [W0]; · iexact W0
    isplitl [F1]; · iexact F1
    isplitl [HC]; · iexact HC
    isplitl [HS]; · iexact HS
    isplitl [O0]; · iexact O0
    iexact Ho
  iintro ⟨Z0, HC, HS, O0, Ho⟩
  iapply (agStep_fwd (X := X) (W := W) (K := K) c 1 2 rfl) $$ [W1 F2 HC HS O1 Ho]
  · isplitr; · iexact HR
    isplitl [W1]; · iexact W1
    isplitl [F2]; · iexact F2
    isplitl [HC]; · iexact HC
    isplitl [HS]; · iexact HS
    isplitl [O1]; · iexact O1
    iexact Ho
  iintro ⟨Z1, HC, HS, O1, Ho⟩
  iapply (agStep_fwd (X := X) (W := W) (K := K) c 2 3 rfl) $$ [W2 F3 HC HS O2 Ho]
  · isplitr; · iexact HR
    isplitl [W2]; · iexact W2
    isplitl [F3]; · iexact F3
    isplitl [HC]; · iexact HC
    isplitl [HS]; · iexact HS
    isplitl [O2]; · iexact O2
    iexact Ho
  iintro ⟨Z2, HC, HS, O2, Ho⟩
  iapply (agStep_fwd (X := X) (W := W) (K := K) c 3 4 rfl) $$ [W3 F4 HC HS O3 Ho]
  · isplitr; · iexact HR
    isplitl [W3]; · iexact W3
    isplitl [F4]; · iexact F4
    isplitl [HC]; · iexact HC
    isplitl [HS]; · iexact HS
    isplitl [O3]; · iexact O3
    iexact Ho
  iintro ⟨Z3, HC, HS, O3, Ho⟩
  iapply (agStep_fwd (X := X) (W := W) (K := K) c 4 5 rfl) $$ [W4 F5 HC HS O4 Ho]
  · isplitr; · iexact HR
    isplitl [W4]; · iexact W4
    isplitl [F5]; · iexact F5
    isplitl [HC]; · iexact HC
    isplitl [HS]; · iexact HS
    isplitl [O4]; · iexact O4
    iexact Ho
  iintro ⟨Z4, HC, HS, O4, Ho⟩
  iapply (agStep_fwd (X := X) (W := W) (K := K) c 5 6 rfl) $$ [W5 F6 HC HS O5 Ho]
  · isplitr; · iexact HR
    isplitl [W5]; · iexact W5
    isplitl [F6]; · iexact F6
    isplitl [HC]; · iexact HC
    isplitl [HS]; · iexact HS
    isplitl [O5]; · iexact O5
    iexact Ho
  iintro ⟨Z5, HC, HS, O5, Ho⟩
  iapply (agStep_last (X := X) (W := W) (K := K) c) $$ [W6 HC HS O6 Ho]
  · isplitr; · iexact HR
    isplitl [W6]; · iexact W6
    isplitl [HC]; · iexact HC
    isplitl [HS]; · iexact HS
    isplitl [O6]; · iexact O6
    iexact Ho
  iintro ⟨Z6, HS, O6, Ho⟩
  iapply Hk
  isplitl [Hr]; · iexact Hr
  isplitl [Hl]; · iexact Hl
  isplitl [Z0 Z1 Z2 Z3 Z4 Z5 Z6]
  · isplitl [Z0]; · iexact Z0
    isplitl [Z1]; · iexact Z1
    isplitl [Z2]; · iexact Z2
    isplitl [Z3]; · iexact Z3
    isplitl [Z4]; · iexact Z4
    isplitl [Z5]; · iexact Z5
    iexact Z6
  isplitl [HS]; · iexact HS
  isplitl [OO]; · iexact OO
  isplitl [O0 O1 O2 O3 O4 O5 O6]
  · isplitl [O0]; · iexact O0
    isplitl [O1]; · iexact O1
    isplitl [O2]; · iexact O2
    isplitl [O3]; · iexact O3
    isplitl [O4]; · iexact O4
    isplitl [O5]; · iexact O5
    iexact O6
  iexact Ho

end Blocks

end Cert.KernelIdeal.Own

end
-- ==== Proof.BodyEq.lean ====
module

public import proofs.«01_k».proof.Proof.Prog

@[expose] public section

noncomputable section

/-! # The printed body is the sequence of blocks -/

namespace Cert.KernelIdeal.Own

open Idealize.ShloMosaic Idealize.SL.Sem Cert.KernelIdeal.Gen

variable {F : FTy → Type} [FloatOps F]

set_option maxRecDepth 100000 in
set_option maxHeartbeats 4000000 in
/-- The printed body is the sequence of the blocks. -/
theorem body_eq (t : Fin cfg0.N) : bodyAt0 (F := F) t = Prog.lift .deviceId >>= fun d => prog d := by
  fin_cases t
  rfl

end Cert.KernelIdeal.Own

end
-- ==== Proof.Whole.lean ====
module

public import proofs.«01_k».proof.Proof.Gather
public import proofs.«01_k».proof.Proof.BodyEq

@[expose] public section

noncomputable section

/-! # The whole body

The body on one device, from what the launch deals it to what it leaves. -/

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

/-! ## Seven of a kind -/

theorem all7_eq (Φ : Fin 7 → PP F) : all7 Φ = bigSep Finset.univ Φ :=
  (bigSep_univ_eq_bigSepL [(0 : Fin 7), 1, 2, 3, 4, 5, 6] (by decide) (by decide) Φ).symm
theorem all7_mono {Φ Ψ : Fin 7 → PP F} (h : ∀ t, Φ t ⊢ Ψ t) : all7 Φ ⊢ all7 Ψ := by
  rw [all7_eq, all7_eq]; exact bigSep_mono fun t _ => h t
theorem all7_sep (Φ Ψ : Fin 7 → PP F) : all7 (fun t => iprop(Φ t ∗ Ψ t)) = iprop(all7 Φ ∗ all7 Ψ) := by
  rw [all7_eq, all7_eq, all7_eq, bigSep_sep']

/-! ## What the launch deals -/

/-- The duties of the `k`-th send of the maximum. -/
def axTok (c : Dev nD) (k : Fin 7) : PP F :=
  iprop(dutyTok ER (cell c 8 k) 0 () ∗ dutyTok ER (cell (rot c (1 + k.val)) 9 k) 0 ())
/-- Every piece of the result. -/
def outs (Φ : Dev nD → Fin 2 → Fin 2 → PP F) (c : Dev nD) : PP F := iprop(out4 Φ c c ∗ all7 (outT Φ c))
/-- What device `c` is dealt of the transfers' tokens and of its own and its neighbours' arrays. -/
def dealt (c : Dev nD) : PP F :=
  iprop(all7 (waitRes c) ∗ all7 (sendRes c) ∗ all7 (axTok c) ∗ all7 (axIn c) ∗ all7 (fun k => atPos ER (cell c 8 k) 0 ∅ 0) ∗ all7 (fwdRes c) ∗ all7 (fwdW c)
    ∗ own_ c (yC c 0) ∗ own_ c (yC c 1) ∗ outs (outPre c) c)
/-- The three semaphores of the copies within the device. -/
def sems3 (c : Dev nD) : PP F :=
  iprop(semVal ((c : Thread nD τ), .dma csem) 0 ∗ semVal ((c : Thread nD τ), .dma qsem0) 0 ∗ semVal ((c : Thread nD τ), .dma qsem1) 0)
/-- The device's own buffers but the maxima's. -/
def bufs (c : Dev nD) : PP F :=
  iprop(own_ c pcM ∗ own_ c rvrM ∗ own_ c svrM ∗ own_ c rvlM ∗ own_ c svlM ∗ own_ c qvrM ∗ own_ c qvlM ∗ own_ c amM)
/-- The seventy semaphores back at zero. -/
def zeros70 (c : Dev nD) : PP F :=
  iprop(all7 (zeros c) ∗ all7 (fwdZ c) ∗ all7 (fun k => semVal (cell c 8 k) 0) ∗ all7 (fun k => semVal (cell c 9 k) 0))
/-- The slots of the maxima the device is left with. -/
def axEnd (c : Dev nD) : PP F := iprop(own_ c (axC c) ∗ all7 fun k => own_ c (axC (rot c (7 - k.val))))

section Blocks

variable {X : Dev nD → S4096x512.Idx → Elt F .bf16} {W : Dev nD → S512x8192.Idx → Elt F .bf16} {K : Ce → ℕ} {α : Type}
variable {kk : PUnit → PF F α} {Q : α → PP F}

theorem kept_ax (c : Dev nD) : all7 (kept (F := F) c) ⊢ all7 fun k : Fin 7 => own_ (F := F) (rot c (1 + k.val)) (axC c) := by
  unfold all7
  iintro ⟨K0, K1, K2, K3, K4, K5, K6⟩
  isplitl [K6]; · iexact K6
  isplitl [K5]; · iexact K5
  isplitl [K4]; · iexact K4
  isplitl [K3]; · iexact K3
  isplitl [K2]; · iexact K2
  isplitl [K1]; · iexact K1
  iexact K0

/-- The maximum's buffer, whole again once its seven sends have ended. -/
theorem am_join (c : Dev nD) : iprop(all7 (axFin X W c) ∗ ownsTc c amM (qs 7) (am X W c)) ⊢ iprop(all7 (fun k => semVal (cell c 8 k) 0) ∗ own_ c amM) := by
  unfold axFin
  rw [all7_sep]
  iintro ⟨⟨HZ, HA⟩, H⟩
  isplitl [HZ]; · iexact HZ
  unfold all7
  icases HA with ⟨A0, A1, A2, A3, A4, A5, A6⟩
  have h (n : ℕ) : iprop(ownsTc c amM (qs n).left (am X W c) ∗ ownsTc c amM (qs (n + 1)) (am X W c)) ⊢ (ownsTc c amM (qs n) (am X W c) : PP F) := unhalve c amM (qs n) (am X W c)
  ihave H := (h 6) $$ [A6 H]
  · isplitl [A6]; · iexact A6
    iexact H
  ihave H := (h 5) $$ [A5 H]
  · isplitl [A5]; · iexact A5
    iexact H
  ihave H := (h 4) $$ [A4 H]
  · isplitl [A4]; · iexact A4
    iexact H
  ihave H := (h 3) $$ [A3 H]
  · isplitl [A3]; · iexact A3
    iexact H
  ihave H := (h 2) $$ [A2 H]
  · isplitl [A2]; · iexact A2
    iexact H
  ihave H := (h 1) $$ [A1 H]
  · isplitl [A1]; · iexact A1
    iexact H
  ihave H := (h 0) $$ [A0 H]
  · isplitl [A0]; · iexact A0
    iexact H
  iexists _; iexact H

theorem prog_spec (c : Dev nD) :
    iprop(recs X W K ∗ dealt c ∗ sems3 c ∗ bufs c ∗ own_ c (axC c) ∗ slots c 0 ∗ own1 c xM (X c) ∗ own1 c wM (W c) ∗ ow c (owed c 0))
      ⊢ iprop(((outs (outPost X W c) c ∗ sems3 c ∗ bufs c ∗ axEnd c ∗ zeros70 c ∗ own1 c xM (X c) ∗ own1 c wM (W c) ∗ ow c (owed c 35)) -∗ WP c (kk ⟨⟩) Q)
        -∗ WP c (prog c >>= kk) Q) := by
  unfold prog dealt sems3 bufs outs
  simp only [bind_assoc]
  iintro ⟨#HR, ⟨HW, HS, HT, HI, HP8, HF, HFW, Y0, Y1, HO0, HO⟩, ⟨Hcs, Q0, Q1⟩, ⟨Bpc, Brvr, Bsvr, Brvl, Bsvl, Bqr, Bql, Bam⟩, Hax, Hsl, Hx, Hw, Ho⟩ Hk
  iapply (rsAll_spec (X := X) (W := W) (K := K) c) $$ [HW HS Hsl Ho Hx Hw Bpc Brvr Bsvr Brvl Bsvl Hcs]
  · isplitr; · iexact HR
    isplitl [HW]; · iexact HW
    isplitl [HS]; · iexact HS
    isplitl [Hsl]; · iexact Hsl
    isplitl [Ho]; · iexact Ho
    isplitl [Hx]; · iexact Hx
    isplitl [Hw]; · iexact Hw
    isplitl [Bpc]; · iexact Bpc
    isplitl [Brvr]; · iexact Brvr
    isplitl [Brvl]; · iexact Brvl
    isplitl [Bsvr]; · iexact Bsvr
    isplitl [Bsvl]; · iexact Bsvl
    iexact Hcs
  iintro ⟨Ho, HZ, HK, Hx, Hw, Bpc, Brvr, Brvl, Bsvr, Bsvl, Hcs⟩
  iapply (own_spec (X := X) (W := W) (K := K) c 14) $$ [Bsvr Bsvl Bam Y0 Y1 Hcs Ho]
  · isplitr; · iexact HR
    isplitl [Bsvr]; · iexact Bsvr
    isplitl [Bsvl]; · iexact Bsvl
    isplitl [Bam]; · iexact Bam
    isplitl [Y0]; · iexact Y0
    isplitl [Y1]; · iexact Y1
    isplitl [Hcs]; · iexact Hcs
    iexact Ho
  iintro ⟨Bsvr, Bsvl, Bam, Y0, Y1, Hcs, Ho⟩
  ihave HK := (kept_ax c) $$ HK
  iapply (axSends_spec (X := X) (W := W) (K := K) c) $$ [HT HK Bam Ho]
  · isplitr; · iexact HR
    isplitl [HT HK]
    · iapply (show iprop(all7 (axTok c) ∗ all7 fun k : Fin 7 => own_ (F := F) (rot c (1 + k.val)) (axC c)) ⊢ all7 (axPre c) by
        rw [← all7_sep]
        refine all7_mono fun k => ?_
        unfold axTok axPre
        iintro ⟨⟨A, B⟩, C⟩
        isplitl [A]; · iexact A
        isplitl [B]; · iexact B
        iexact C)
      isplitl [HT]; · iexact HT
      iexact HK
    isplitl [Bam]; · iexact Bam
    iexact Ho
  iintro ⟨HC8, Bam, Ho⟩
  unfold all7
  icases HF with ⟨F0, F1, F2, F3, F4, F5, F6⟩
  ihave Y0 := (halve c (yC c 0) fullShare _) $$ Y0
  icases Y0 with ⟨Y0, -⟩
  ihave Y1 := (halve c (yC c 1) fullShare _) $$ Y1
  icases Y1 with ⟨Y1, -⟩
  iapply (agSend_spec (X := X) (W := W) (K := K) c 0) $$ [F0 Y0 Y1 Ho]
  · isplitr; · iexact HR
    isplitl [F0]; · iexact F0
    isplitl [Y0 Y1]
    · unfold chunks
      rw [rot_self c (a := 8 - (0 : Fin 7).val) rfl, rot_self c (a := (0 : Fin 7).val) rfl]
      isplitl [Y0]; · iexact Y0
      iexact Y1
    iexact Ho
  iintro ⟨HC, Ho⟩
  iapply (axRecvs_spec (X := X) (W := W) (K := K) c) $$ [HI Ho]
  · isplitr; · iexact HR
    isplitl [HI]; · unfold all7; iexact HI
    iexact Ho
  iintro ⟨HG, Ho⟩
  iapply (agAll_spec (X := X) (W := W) (K := K) c) $$ [Bsvr Bsvl HFW F1 F2 F3 F4 F5 F6 HC Brvr Brvl Hcs Bqr Bql Q0 Q1 HO0 HO Ho]
  · isplitr; · iexact HR
    isplitl [Bsvr]; · iexact Bsvr
    isplitl [Bsvl]; · iexact Bsvl
    isplitl [HFW]; · unfold all7; iexact HFW
    isplitl [F1 F2 F3 F4 F5 F6]
    · isplitl [F1]; · iexact F1
      isplitl [F2]; · iexact F2
      isplitl [F3]; · iexact F3
      isplitl [F4]; · iexact F4
      isplitl [F5]; · iexact F5
      iexact F6
    isplitl [HC]; · iexact HC
    isplitl [Brvr Brvl Hcs Bqr Bql Q0 Q1]
    · unfold agSt qRes
      isplitl [Brvr]; · iexact Brvr
      isplitl [Brvl]; · iexact Brvl
      isplitl [Hcs]; · iexact Hcs
      isplitl [Bqr]; · iexact Bqr
      isplitl [Bql]; · iexact Bql
      isplitl [Q0]; · iexact Q0
      iexact Q1
    isplitl [HO0]; · iexact HO0
    isplitl [HO]; · unfold all7; iexact HO
    iexact Ho
  iintro ⟨Bsvr, Bsvl, HFZ, HA, HO0, HO, Ho⟩
  iapply (axDones_spec (X := X) (W := W) (K := K) c) $$ [HC8 HP8 Ho]
  · isplitr; · iexact HR
    isplitl [HC8 HP8]
    · iapply (show iprop(all7 (fun k => cred (tallyAt (cell c 8 k) () (amt 8))) ∗ all7 fun k => atPos ER (cell c 8 k) 0 ∅ 0) ⊢ all7 (axBk (F := F) c) by
        rw [← all7_sep]; exact all7_mono fun k => Entails.of_eq rfl)
      unfold all7
      isplitl [HC8]; · iexact HC8
      iexact HP8
    iexact Ho
  iintro ⟨HD, Ho⟩
  ihave HD := (am_join (X := X) (W := W) c) $$ [HD Bam]
  · isplitl [HD]; · iexact HD
    iexact Bam
  icases HD with ⟨HZ8, Bam⟩
  ihave HG := (show all7 (axGot (F := F) c) ⊢ iprop(all7 (fun k => semVal (cell c 9 k) 0) ∗ all7 fun k => own_ c (axC (rot c (7 - k.val)))) by
    rw [← all7_sep]; exact all7_mono fun k => Entails.of_eq rfl) $$ HG
  icases HG with ⟨HZ9, HX⟩
  iapply Hk
  isplitl [HO0 HO]
  · isplitl [HO0]; · iexact HO0
    unfold all7; iexact HO
  ihave HA := (show agSt (F := F) c ⊢ iprop(own_ c rvrM ∗ own_ c rvlM ∗ semVal ((c : Thread nD τ), .dma csem) 0 ∗ own_ c qvrM ∗ own_ c qvlM
      ∗ semVal ((c : Thread nD τ), .dma qsem0) 0 ∗ semVal ((c : Thread nD τ), .dma qsem1) 0) from Entails.of_eq rfl) $$ HA
  icases HA with ⟨Brvr, Brvl, Hcs, Bqr, Bql, Q0, Q1⟩
  isplitl [Hcs Q0 Q1]
  · isplitl [Hcs]; · iexact Hcs
    isplitl [Q0]; · iexact Q0
    iexact Q1
  isplitl [Bpc Brvr Bsvr Brvl Bsvl Bqr Bql Bam]
  · isplitl [Bpc]; · iexact Bpc
    isplitl [Brvr]; · iexact Brvr
    isplitl [Bsvr]; · iexists _; iexact Bsvr
    isplitl [Brvl]; · iexact Brvl
    isplitl [Bsvl]; · iexists _; iexact Bsvl
    isplitl [Bqr]; · iexact Bqr
    isplitl [Bql]; · iexact Bql
    iexact Bam
  isplitl [Hax HX]
  · unfold axEnd
    isplitl [Hax]; · iexact Hax
    iexact HX
  isplitl [HZ HFZ HZ8 HZ9]
  · unfold zeros70
    isplitl [HZ]; · unfold all7; iexact HZ
    isplitl [HFZ]; · iexact HFZ
    isplitl [HZ8]; · iexact HZ8
    iexact HZ9
  isplitl [Hx]; · iexact Hx
  isplitl [Hw]; · iexact Hw
  iexact Ho

end Blocks

end Cert.KernelIdeal.Own

end
-- ==== Proof.Body.lean ====
module

public import proofs.«01_k».proof.Proof.Whole
public import proofs.«01_k».proof.Proof.Gen.KernelIdeal.Frame
public import Idealize.ShloMosaic.Lib.Pipeline.FrameBody

@[expose] public section

noncomputable section

/-! # The body against the pipeline

What a device holds at the start of its one grid point and at its end, and the body between the two. -/

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

open Idealize.ShloMosaic.Pipeline (Dat Cfg Window BodyObligation)

variable (m : (ℓ : Loc nD τ sig) → Buf (Elt F) ℓ) (ρ : Dev nD → PrngReg)

/-- The first operand, as device `c` has it staged. -/
def Xs (c : Dev nD) : S4096x512.Idx → Elt F .bf16 := iblk m c 0 t0_0
/-- The second operand, as device `c` has it staged. -/
def Ws (c : Dev nD) : S512x8192.Idx → Elt F .bf16 := iblk m c 1 t0_0

/-- Device `c`'s memref `b` whole, whatever it holds, in the launch's words. -/
abbrev any (c : Dev nD) (b : Ref sig .tc) : PP F := iprop(∃ f : Buf (Elt F) ((c : Thread nD τ).loc b), ((c : Thread nD τ).loc b) ↦{fullShare} f)

/-- A whole memref in the launch's words. -/
theorem own1_whole (c : Dev nD) (b : Ref sig .tc) (Y : b.ty.Contents (Elt F)) :
    (owns (Ix := Unit) (Name := ℕ) (U := UU) (Lvl := ℕ) (c : Thread nD τ) (Memref.whole b) fullShare Y : PP F)
      = iprop(∃ f : Buf (Elt F) ((c : Thread nD τ).loc b), ⌜f = Y⌝ ∗ (((c : Thread nD τ).loc b) ↦{fullShare} f)) := by
  unfold owns; simp only [Memref.view_whole, View.read_whole, View.set_whole]

/-- What device `c` starts with: the records, what it was dealt, its three own semaphores and the maxima's slots. -/
def start (c : Dev nD) : PP F :=
  iprop((∃ K, recs (Xs m) (Ws m) K) ∗ dealt c ∗ sems3 c)
/-- At the start of the grid point. -/
def Φ₀ (c : Dev nD) : PP F := iprop(start m c ∗ bufs c ∗ own_ c (axC c) ∗ slots c 0)
/-- At its end. -/
def Φ₁ (c : Dev nD) : PP F := iprop(outs (outPost (Xs m) (Ws m) c) c ∗ sems3 c ∗ zeros70 c ∗ bufs c ∗ axEnd c)

/-- The proof data: both arrays as launched, the body leaving the staged blocks as they are. -/
def dats (_ : Fin 1) (c : Dev nD) : Dat τ (Elt F) Unit ℕ UU ℕ cfg0 c where
  A w := m ((cfg0.win w).arr.view.loc (c : Thread nD τ))
  after w _ := match w with
    | ⟨0, _⟩ => Xs m c
    | ⟨1, _⟩ => Ws m c
  Φ t := match t with
    | ⟨0, _⟩ => Φ₀ m c
    | ⟨_ + 1, _⟩ => Φ₁ m c
  q _ := fullShare
  owed t := match t with
    | ⟨0, _⟩ => owed c 0
    | ⟨_ + 1, _⟩ => 0

/-- Before the body, a staging buffer at the contents the pipeline gives it. -/
def stPre (c : Dev nD) : PP F :=
  iprop(Φ₀ m c ∗ (dats m 0 c).owesAt () (t0_0 : Fin cfg0.N).castSucc
    ∗ (∃ d, owns (Ix := Unit) (Name := ℕ) (U := UU) (Lvl := ℕ) (c : Thread nD τ) (Memref.whole cc0_stg0_0) fullShare ((dats m 0 c).before (0 : Fin 2) t0_0 d))
    ∗ (∃ d, owns (Ix := Unit) (Name := ℕ) (U := UU) (Lvl := ℕ) (c : Thread nD τ) (Memref.whole cc0_stg1_0) fullShare ((dats m 0 c).before (1 : Fin 2) t0_0 d)))
/-- After it. -/
def stPost (c : Dev nD) : PP F :=
  iprop(Φ₁ m c ∗ (dats m 0 c).owesAt () (t0_0 : Fin cfg0.N).succ ∗ own1 c xM (Xs m c) ∗ own1 c wM (Ws m c))

theorem before_x (c : Dev nD) (d) : (dats m 0 c).before (0 : Fin 2) t0_0 d = Xs m c := by unfold Dat.before; rw [if_pos (fetch0_0 t0_0)]; rfl
theorem before_w (c : Dev nD) (d) : (dats m 0 c).before (1 : Fin 2) t0_0 d = Ws m c := by unfold Dat.before; rw [if_pos (fetch0_1 t0_0)]; rfl

/-- The body takes the one state to the other. -/
theorem sound (c : Dev nD) : stPre m c ⊢ WP c (prog c >>= fun _ => pure PUnit.unit) (fun _ => stPost m c) := by
  unfold stPre Φ₀ start
  simp only [before_x m c, before_w m c]
  unfold Dat.owesAt Pipeline.owesWithin
  iintro ⟨⟨⟨⟨%K, HR⟩, HD, HS⟩, HB, HA, HL⟩, ⟨%w, %hw, Ho⟩, ⟨%d0, Hx⟩, ⟨%d1, Hw⟩⟩
  iapply (prog_spec (X := Xs m) (W := Ws m) (K := K) (kk := fun _ => pure PUnit.unit) c) $$ [HR HD HS HB HA HL Ho Hx Hw]
  · isplitl [HR]; · iexact HR
    isplitl [HD]; · iexact HD
    isplitl [HS]; · iexact HS
    isplitl [HB]; · iexact HB
    isplitl [HA]; · iexact HA
    isplitl [HL]; · iexact HL
    isplitl [Hx]; · iexact Hx
    isplitl [Hw]; · iexact Hw
    iexists w; iexact Ho
  rw [owed_end]
  iintro ⟨HO, HS, HB, HA, HZ, Hx, Hw, ⟨%w', Ho⟩⟩
  simp only [Prog.pure_eq_ret, WP, wp_ret]
  imodintro
  unfold stPost Φ₁ Dat.owesAt Pipeline.owesWithin
  isplitl [HO HS HB HA HZ]
  · isplitl [HO]; · iexact HO
    isplitl [HS]; · iexact HS
    isplitl [HZ]; · iexact HZ
    isplitl [HB]; · iexact HB
    iexact HA
  isplitl [Ho]
  · iexists w'
    isplitr; · ipureintro; exact fun _ _ => Or.inl trivial
    iexact Ho
  isplitl [Hx]; · iexact Hx
  iexact Hw

theorem bigSep_W (Φ : Fin cfg0.W → PP F) : bigSep Finset.univ Φ = iprop(Φ (0 : Fin 2) ∗ Φ (1 : Fin 2)) := bigSep_W0 Φ

/-- The body table's row at a point is the printed body. -/
theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [fin_N0 t]
  rw [bigSep_W, bigSep_W, row, body_eq]
  have h := sound m c
  rw [bind_pure_unit] at h
  simp only [Prog.lift, Prog.bind_op, Prog.bind_ret, wp_deviceId]
  exact triple_restated h rfl .rfl fun _ => .rfl

end Cert.KernelIdeal.Own

end
-- ==== Proof.Split.lean ====
module

public import proofs.«01_k».proof.Proof.Body

@[expose] public section

noncomputable section

/-! # The buffers in pieces

Each buffer that is read or written in pieces, taken apart, and the maxima's array put together again. -/

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

/-! ## Whole memrefs -/

theorem any_own (c : Dev nD) (b : Ref sig .tc) (f : Buf (Elt F) ((c : Thread nD τ).loc b)) :
    (((c : Thread nD τ).loc b) ↦{fullShare} f : PP F) ⊢ own_ c (Memref.whole b) := by
  iintro H
  iexists f
  iapply (Entails.of_eq (own1_whole c b f).symm)
  iexists f
  isplitr; · ipureintro; rfl
  iexact H

theorem own_any (c : Dev nD) (b : Ref sig .tc) : own_ (F := F) c (Memref.whole b) ⊢ any c b := by
  iintro ⟨%X, H⟩
  ihave H := (Entails.of_eq (own1_whole c b X)) $$ H
  icases H with ⟨%f, -, H⟩
  iexists f; iexact H

/-! ## Pieces -/

section Pieces

variable {sp : Space} {s : Shape} {e : EltTy} (c : Dev nD) (m : Memref sig .tc sp s e)
variable {T : Type} [Fintype T] [DecidableEq T] (r : T → Rect s) (hr : ∀ t a, (r t).stride a = 1)
variable (hd : ∀ t t', t ≠ t' → Disjoint (r t).set (r t').set) (hcov : ∀ x, ∃ t, x ∈ (r t).set)
include hd hcov

/-- A memref in the pieces that make it up. -/
theorem own_split : own_ (F := F) c m ⊢ bigSep Finset.univ fun t => own_ (F := F) c (m.slice (r t) (hr t)) := by
  iintro ⟨%X, H⟩
  ihave H := (owns_rects (Ix := Unit) (Name := ℕ) (U := UU) (Lvl := ℕ) (c : Thread nD τ) m fullShare r hr hd
    (Finset.eq_univ_iff_forall.2 fun x => by obtain ⟨t, ht⟩ := hcov x; exact Finset.mem_biUnion.2 ⟨t, Finset.mem_univ _, ht⟩) X) $$ H
  iapply (show (bigSep Finset.univ fun t => own1 (F := F) c (m.slice (r t) (hr t)) fun j => X ((r t).emb j)) ⊢ bigSep Finset.univ fun t => own_ (F := F) c (m.slice (r t) (hr t)) from
    bigSep_mono fun t _ => show own1 (F := F) c (m.slice (r t) (hr t)) (fun j => X ((r t).emb j)) ⊢ own_ (F := F) c (m.slice (r t) (hr t)) by
      iintro H; iexists (fun j => X ((r t).emb j)); iexact H)
  iexact H

/-- And back. -/
theorem own_join : (bigSep Finset.univ fun t => own_ (F := F) c (m.slice (r t) (hr t))) ⊢ own_ (F := F) c m := by
  iintro H
  ihave H := (BI.bigSep_exists_pi Finset.univ (fun (t : T) X => own1 (F := F) c (m.slice (r t) (hr t)) X)) $$ H
  icases H with ⟨%Y, H⟩
  have hY : ∃ X : s.Idx → Elt F e, ∀ t j, X ((r t).emb j) = Y t j := by
    classical
    have hmem (x : s.Idx) : ∃ t, ∃ j, (r t).emb j = x := by
      obtain ⟨t, ht⟩ := hcov x
      rw [← Rect.map_emb_univ, Finset.mem_map] at ht
      obtain ⟨j, -, hj⟩ := ht
      exact ⟨t, j, hj⟩
    have hin (u : T) (i : (r u).shape.Idx) : (r u).emb i ∈ (r u).set := by
      rw [← Rect.map_emb_univ]; exact Finset.mem_map_of_mem _ (Finset.mem_univ i)
    have key (u t : T) (i : (r u).shape.Idx) (j : (r t).shape.Idx) (h : (r u).emb i = (r t).emb j) : Y u i = Y t j := by
      have hut : u = t := by
        by_contra hne
        exact Finset.disjoint_left.1 (hd _ _ hne) (hin _ i) (h ▸ hin t j)
      subst hut
      rw [(r u).emb.injective h]
    exact ⟨fun x => Y (hmem x).choose (hmem x).choose_spec.choose, fun t j => key _ _ _ _ (hmem ((r t).emb j)).choose_spec.choose_spec⟩
  obtain ⟨X, hX⟩ := hY
  iexists X
  iapply (owns_of_rects (Ix := Unit) (Name := ℕ) (U := UU) (Lvl := ℕ) (c : Thread nD τ) m fullShare r hr hd
    (Finset.eq_univ_iff_forall.2 fun x => by obtain ⟨t, ht⟩ := hcov x; exact Finset.mem_biUnion.2 ⟨t, Finset.mem_univ _, ht⟩) X)
  iapply (show (bigSep Finset.univ fun t => own1 (F := F) c (m.slice (r t) (hr t)) (Y t)) ⊢ bigSep Finset.univ fun t => own1 (F := F) c (m.slice (r t) (hr t)) fun j => X ((r t).emb j) from
    bigSep_mono fun t _ => Entails.of_eq (congrArg (own1 (F := F) c (m.slice (r t) (hr t))) (funext fun j => (hX t j).symm)))
  iexact H

end Pieces

/-- An axis of length one dropped. -/
theorem own_squeeze {sp : Space} {s s' : Shape} {e : EltTy} (c : Dev nD) (m : Memref sig .tc sp s e) (hq : s.Squeezes s') :
    own_ (F := F) c m ⊢ own_ (F := F) c (m.squeeze s' hq) := by
  unfold own_ own1 ownsTc owns
  iintro ⟨%X, %f, -, H⟩
  iexists ((m.squeeze s' hq).view.read (Elt F) f)
  iexists f
  isplitr; · ipureintro; rfl
  iapply (Entails.of_eq (congrArg (fun S => (m.view.loc (c : Thread nD τ) ↦[S]{fullShare} f : PP F)) (View.set_reshape (v := m.view) (s' := s') hq.numel_eq)).symm)
  iexact H
/-- And put back. -/
theorem own_unsqueeze {sp : Space} {s s' : Shape} {e : EltTy} (c : Dev nD) (m : Memref sig .tc sp s e) (hq : s.Squeezes s') :
    own_ (F := F) c (m.squeeze s' hq) ⊢ own_ (F := F) c m := by
  unfold own_ own1 ownsTc owns
  iintro ⟨%X, %f, -, H⟩
  iexists (m.view.read (Elt F) f)
  iexists f
  isplitr; · ipureintro; rfl
  iapply (Entails.of_eq (congrArg (fun S => (m.view.loc (c : Thread nD τ) ↦[S]{fullShare} f : PP F)) (View.set_reshape (v := m.view) (s' := s') hq.numel_eq)))
  iexact H

/-! ## The devices round the ring -/

/-- All the devices: one, and the rest backwards from it; -/
theorem devs_back (d : Dev nD) (Φ : Dev nD → PP F) : bigSep Finset.univ Φ = iprop(Φ d ∗ all7 fun t : Fin 7 => Φ (rot d (7 - t.val))) :=
  bigSep_univ_eq_bigSepL [d, rot d 7, rot d 6, rot d 5, rot d 4, rot d 3, rot d 2, rot d 1] (by revert d; decide) (by revert d; decide) Φ
/-- or forwards. -/
theorem devs_fwd (d : Dev nD) (Φ : Dev nD → PP F) : bigSep Finset.univ Φ = iprop(Φ d ∗ all7 fun t : Fin 7 => Φ (rot d (t.val + 1))) :=
  bigSep_univ_eq_bigSepL [d, rot d 1, rot d 2, rot d 3, rot d 4, rot d 5, rot d 6, rot d 7] (by revert d; decide) (by revert d; decide) Φ

/-! ## The four buffers -/

/-- The reduced array. -/
theorem y_split (c : Dev nD) : own_ (F := F) c yM ⊢ iprop(own_ (F := F) c (yC c 0) ∗ own_ (F := F) c (yC c 1)
    ∗ (all7 fun t : Fin 7 => own_ (F := F) c (yC (rot c (7 - t.val)) 0)) ∗ all7 fun t : Fin 7 => own_ (F := F) c (yC (rot c (t.val + 1)) 1)) := by
  iintro H
  ihave H := (own_split (F := F) c yM (T := Fin 2 × Dev nD)
    (fun p => Rect.unit (s := S4096x8192) ![512 * p.2.val, 4096 * p.1.val] S512x4096.size (inb_yC p.2 p.1)) (fun _ _ => rfl)
    (fun p p' hne => Finset.disjoint_left.2 fun x hx hx' => by
      rw [Rect.mem_set_unit] at hx hx'
      have a0 : 512 * p.2.val ≤ (x 0).val ∧ (x 0).val < 512 * p.2.val + 512 := hx 0
      have a1 : 4096 * p.1.val ≤ (x 1).val ∧ (x 1).val < 4096 * p.1.val + 4096 := hx 1
      have b0 : 512 * p'.2.val ≤ (x 0).val ∧ (x 0).val < 512 * p'.2.val + 512 := hx' 0
      have b1 : 4096 * p'.1.val ≤ (x 1).val ∧ (x 1).val < 4096 * p'.1.val + 4096 := hx' 1
      refine hne (Prod.ext (Fin.ext ?_) (Fin.ext ?_)) <;> omega)
    (fun x => by
      have x0 : (x 0).val < 4096 := (x 0).isLt
      have x1 : (x 1).val < 8192 := (x 1).isLt
      refine ⟨(⟨(x 1).val / 4096, by omega⟩, ⟨(x 0).val / 512, by show _ < 8; omega⟩), ?_⟩
      rw [Rect.mem_set_unit]
      intro a
      fin_cases a
      · show 512 * ((x 0).val / 512) ≤ (x 0).val ∧ (x 0).val < 512 * ((x 0).val / 512) + 512; omega
      · show 4096 * ((x 1).val / 4096) ≤ (x 1).val ∧ (x 1).val < 4096 * ((x 1).val / 4096) + 4096; omega)) $$ H
  ihave H := (show _ ⊢ iprop((bigSep Finset.univ fun j => own_ (F := F) c (yC j 0)) ∗ bigSep Finset.univ fun j => own_ (F := F) c (yC j 1)) from
    Entails.of_eq (by rw [bigSep_univ_prod, bigSep_fin_two]; rfl)) $$ H
  rw [devs_back c fun j => own_ (F := F) c (yC j 0), devs_fwd c fun j => own_ (F := F) c (yC j 1)]
  icases H with ⟨⟨A, B⟩, C, D⟩
  isplitl [A]; · iexact A
  isplitl [C]; · iexact C
  isplitl [B]; · iexact B
  iexact D

/-- The result. -/
theorem out_split (c : Dev nD) : own_ (F := F) c outM ⊢ outs (outPre c) c := by
  iintro H
  ihave H := (own_split (F := F) c outM (T := (Fin 2 × Fin 2) × Dev nD)
    (fun p => Rect.unit (s := S4096x8192) ![512 * p.2.val + 256 * p.1.1.val, 4096 * p.1.2.val] S256x4096.size (inb_outC p.2 p.1.1 p.1.2)) (fun _ _ => rfl)
    (fun p p' hne => Finset.disjoint_left.2 fun x hx hx' => by
      rw [Rect.mem_set_unit] at hx hx'
      have a0 : 512 * p.2.val + 256 * p.1.1.val ≤ (x 0).val ∧ (x 0).val < 512 * p.2.val + 256 * p.1.1.val + 256 := hx 0
      have a1 : 4096 * p.1.2.val ≤ (x 1).val ∧ (x 1).val < 4096 * p.1.2.val + 4096 := hx 1
      have b0 : 512 * p'.2.val + 256 * p'.1.1.val ≤ (x 0).val ∧ (x 0).val < 512 * p'.2.val + 256 * p'.1.1.val + 256 := hx' 0
      have b1 : 4096 * p'.1.2.val ≤ (x 1).val ∧ (x 1).val < 4096 * p'.1.2.val + 4096 := hx' 1
      refine hne (Prod.ext (Prod.ext (Fin.ext ?_) (Fin.ext ?_)) (Fin.ext ?_)) <;> omega)
    (fun x => by
      have x0 : (x 0).val < 4096 := (x 0).isLt
      have x1 : (x 1).val < 8192 := (x 1).isLt
      refine ⟨((⟨(x 0).val % 512 / 256, by omega⟩, ⟨(x 1).val / 4096, by omega⟩), ⟨(x 0).val / 512, by show _ < 8; omega⟩), ?_⟩
      rw [Rect.mem_set_unit]
      intro a
      fin_cases a
      · show 512 * ((x 0).val / 512) + 256 * ((x 0).val % 512 / 256) ≤ (x 0).val ∧ (x 0).val < 512 * ((x 0).val / 512) + 256 * ((x 0).val % 512 / 256) + 256; omega
      · show 4096 * ((x 1).val / 4096) ≤ (x 1).val ∧ (x 1).val < 4096 * ((x 1).val / 4096) + 4096; omega)) $$ H
  ihave H := (show _ ⊢ iprop(((bigSep Finset.univ fun j => outPre (F := F) c j 0 0) ∗ bigSep Finset.univ fun j => outPre (F := F) c j 0 1)
      ∗ (bigSep Finset.univ fun j => outPre (F := F) c j 1 0) ∗ bigSep Finset.univ fun j => outPre (F := F) c j 1 1) from
    Entails.of_eq (by rw [bigSep_univ_prod, bigSep_univ_prod, bigSep_fin_two, bigSep_fin_two, bigSep_fin_two]; rfl)) $$ H
  rw [devs_back c fun j => outPre (F := F) c j 0 0, devs_fwd c fun j => outPre (F := F) c j 0 1, devs_back c fun j => outPre (F := F) c j 1 0, devs_fwd c fun j => outPre (F := F) c j 1 1]
  icases H with ⟨⟨⟨A, A7⟩, B, B7⟩, ⟨C, C7⟩, D, D7⟩
  unfold outs outT out4
  isplitl [A B C D]
  · isplitl [A]; · iexact A
    isplitl [B]; · iexact B
    isplitl [C]; · iexact C
    iexact D
  rw [all7_sep, all7_sep, all7_sep]
  isplitl [A7]; · iexact A7
  isplitl [B7]; · iexact B7
  isplitl [C7]; · iexact C7
  iexact D7

/-- The receive areas. -/
theorem recv_split (c : Dev nD) : own_ (F := F) c recvM ⊢ iprop((all7 fun t => own_ (F := F) c (recvR t)) ∗ all7 fun t => own_ (F := F) c (recvL t)) := by
  have inb (p : Fin 2 × Fin 7) : ∀ a, (![p.2.val, 0, 4096 * p.1.val] : Fin 3 → Nat) a + S1x512x4096.size a ≤ S7x512x8192.size a := fun a => by
    have := p.1.isLt; have := p.2.isLt
    fin_cases a
    · show p.2.val + 1 ≤ 7; omega
    · show 0 + 512 ≤ 512; omega
    · show 4096 * p.1.val + 4096 ≤ 8192; omega
  iintro H
  ihave H := (own_split (F := F) c recvM (T := Fin 2 × Fin 7)
    (fun p => Rect.unit (s := S7x512x8192) ![p.2.val, 0, 4096 * p.1.val] S1x512x4096.size (inb p)) (fun _ _ => rfl)
    (fun p p' hne => Finset.disjoint_left.2 fun x hx hx' => by
      rw [Rect.mem_set_unit] at hx hx'
      have a0 : p.2.val ≤ (x 0).val ∧ (x 0).val < p.2.val + 1 := hx 0
      have a2 : 4096 * p.1.val ≤ (x 2).val ∧ (x 2).val < 4096 * p.1.val + 4096 := hx 2
      have b0 : p'.2.val ≤ (x 0).val ∧ (x 0).val < p'.2.val + 1 := hx' 0
      have b2 : 4096 * p'.1.val ≤ (x 2).val ∧ (x 2).val < 4096 * p'.1.val + 4096 := hx' 2
      refine hne (Prod.ext (Fin.ext ?_) (Fin.ext ?_)) <;> omega)
    (fun x => by
      have x0 : (x 0).val < 7 := (x 0).isLt
      have x1 : (x 1).val < 512 := (x 1).isLt
      have x2 : (x 2).val < 8192 := (x 2).isLt
      refine ⟨(⟨(x 2).val / 4096, by omega⟩, ⟨(x 0).val, x0⟩), ?_⟩
      rw [Rect.mem_set_unit]
      intro a
      fin_cases a
      · show (x 0).val ≤ (x 0).val ∧ (x 0).val < (x 0).val + 1; omega
      · show 0 ≤ (x 1).val ∧ (x 1).val < 0 + 512; omega
      · show 4096 * ((x 2).val / 4096) ≤ (x 2).val ∧ (x 2).val < 4096 * ((x 2).val / 4096) + 4096; omega)) $$ H
  ihave H := (show _ ⊢ iprop((bigSep Finset.univ fun t : Fin 7 => own_ (F := F) c (recvM.slice (Rect.unit (s := S7x512x8192) ![t.val, 0, 0] S1x512x4096.size (inb_recvR t)) fun _ => rfl))
      ∗ bigSep Finset.univ fun t : Fin 7 => own_ (F := F) c (recvM.slice (Rect.unit (s := S7x512x8192) ![t.val, 0, 4096] S1x512x4096.size (inb_recvL t)) fun _ => rfl)) from
    Entails.of_eq (by rw [bigSep_univ_prod, bigSep_fin_two]; rfl)) $$ H
  rw [all7_eq, all7_eq]
  icases H with ⟨A, B⟩
  isplitl [A]
  · iapply (show _ ⊢ bigSep Finset.univ fun t => own_ (F := F) c (recvR t) from bigSep_mono fun t _ => own_squeeze (F := F) c _ squeezes_S1x512x4096_S512x4096)
    iexact A
  · iapply (show _ ⊢ bigSep Finset.univ fun t => own_ (F := F) c (recvL t) from bigSep_mono fun t _ => own_squeeze (F := F) c _ squeezes_S1x512x4096_S512x4096)
    iexact B

/-- The slots of the maxima, as rectangles of their array. -/
abbrev axRect (j : Dev nD) : Rect S8x8x128 := Rect.unit (s := S8x8x128) ![j.val, 0, 0] S1x8x128.size (inb_axC j)
theorem ax_disj (j j' : Dev nD) (hne : j ≠ j') : Disjoint (axRect j).set (axRect j').set := Finset.disjoint_left.2 fun x hx hx' => by
  rw [Rect.mem_set_unit] at hx hx'
  have a0 : j.val ≤ (x 0).val ∧ (x 0).val < j.val + 1 := hx 0
  have b0 : j'.val ≤ (x 0).val ∧ (x 0).val < j'.val + 1 := hx' 0
  exact hne (Fin.ext (by omega))
theorem ax_cov (x : S8x8x128.Idx) : ∃ j, x ∈ (axRect j).set := by
  have x0 : (x 0).val < 8 := (x 0).isLt
  have x1 : (x 1).val < 8 := (x 1).isLt
  have x2 : (x 2).val < 128 := (x 2).isLt
  refine ⟨⟨(x 0).val, x0⟩, ?_⟩
  rw [Rect.mem_set_unit]
  intro a
  fin_cases a
  · show (x 0).val ≤ (x 0).val ∧ (x 0).val < (x 0).val + 1; omega
  · show 0 ≤ (x 1).val ∧ (x 1).val < 0 + 8; omega
  · show 0 ≤ (x 2).val ∧ (x 2).val < 0 + 128; omega

/-- The maxima's array in its slots, -/
theorem ax_split (c : Dev nD) : own_ (F := F) c axM ⊢ iprop(own_ (F := F) c (axC c) ∗ slots c 0) := by
  iintro H
  ihave H := (own_split (F := F) c axM axRect (fun _ _ => rfl) ax_disj ax_cov) $$ H
  ihave H := (show (bigSep Finset.univ fun j => own_ (F := F) c (axM.slice (axRect j) fun _ => rfl)) ⊢ bigSep Finset.univ fun j => own_ (F := F) c (axC j) from bigSep_mono fun j _ => own_squeeze (F := F) c _ squeezes_S1x8x128_S8x128) $$ H
  ihave H := (Entails.of_eq (devs_fwd c fun j => own_ (F := F) c (axC j))) $$ H
  icases H with ⟨A, B⟩
  isplitl [A]; · iexact A
  rw [slots_step c 0 (by omega), slots_step c 1 (by omega), slots_step c 2 (by omega), slots_step c 3 (by omega), slots_step c 4 (by omega),
    slots_step c 5 (by omega), slots_step c 6 (by omega)]
  unfold all7
  icases B with ⟨B0, B1, B2, B3, B4, B5, B6⟩
  isplitl [B0]; · iexact B0
  isplitl [B1]; · iexact B1
  isplitl [B2]; · iexact B2
  isplitl [B3]; · iexact B3
  isplitl [B4]; · iexact B4
  isplitl [B5]; · iexact B5
  isplitl [B6]; · iexact B6
  unfold slots
  rw [show Finset.Ico (7 + 1) 8 = ∅ by decide, BI.bigSep_empty]
  iempintro

/-- and put together. -/
theorem ax_join (c : Dev nD) : axEnd c ⊢ own_ (F := F) c axM := by
  unfold axEnd
  rw [← devs_back c fun j => own_ (F := F) c (axC j)]
  iintro H
  iapply (own_join (F := F) c axM axRect (fun _ _ => rfl) ax_disj ax_cov)
  iapply (show (bigSep Finset.univ fun j => own_ (F := F) c (axC j)) ⊢ bigSep Finset.univ fun j => own_ (F := F) c (axM.slice (axRect j) fun _ => rfl) from bigSep_mono fun j _ => own_unsqueeze (F := F) c (axM.slice (axRect j) fun _ => rfl) squeezes_S1x8x128_S8x128)
  iexact H

end Cert.KernelIdeal.Own

end
-- ==== Proof.Deal.lean ====
module

public import proofs.«01_k».proof.Proof.Split

@[expose] public section

noncomputable section

/-! # The deal

What the launch starts from, dealt over the devices: the semaphores' invariants, the transfers' tokens and credits, and
each device's receive areas and its neighbours' parts of its reduced array. -/

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

open Idealize.ShloMosaic.Pipeline (launchCred ownSems0)

variable (m : (ℓ : Loc nD τ sig) → Buf (Elt F) ℓ)

/-! ## The semaphores -/

/-- The kernel's own semaphores: the seventy of the transfers between devices and the three of the copies within one. -/
abbrev osem : (Fin 10 × Fin 7) ⊕ Fin 3 → SemLoc sig
  | .inl p => .dma (sm p.1 p.2)
  | .inr 0 => .dma csem
  | .inr 1 => .dma qsem0
  | .inr 2 => .dma qsem1

set_option maxRecDepth 8000 in
theorem ownSemFacts : Pipeline.OwnSemFacts cfg0.spec osem := by decide +kernel

theorem kcell_injective : Function.Injective (kcell : Ce → GSem nD τ sig) := by
  rintro ⟨c, k, t⟩ ⟨c', k', t'⟩ h
  have h1 : c = c' := congrArg (fun g : GSem nD τ sig => g.1.1) h
  have h2 : some (k, t) = some (k', t') := by
    rw [← dec_sm k t, ← dec_sm k' t']
    have h3 : (SemLoc.dma (sm k t) : SemLoc sig) = .dma (sm k' t') := congrArg Prod.snd h
    rw [SemLoc.dma.inj h3]
  rw [h1, Option.some.inj h2]

def ringCells : Finset (GSem nD τ sig) := Finset.univ.map ⟨kcell, kcell_injective⟩
def ringToks : Finset (GSem nD τ sig × ℕ × Unit) := Finset.univ.map ⟨fun i : Ce => (kcell i, 0, ()), fun i j h => kcell_injective (congrArg Prod.fst h)⟩
/-- The ghost state a run starts from. -/
def u₀ : UU := (initOf (Pipeline.cells cfgs cellOf_inj) (Pipeline.launchToks cfgs cellOf_inj), (initOf ringCells ringToks, 1))

/-- A device's own seventy of `Φ`. -/
abbrev own70 (Φ : Ce → PP F) (c : Dev nD) : PP F := bigSep Finset.univ fun p : Fin 10 × Fin 7 => Φ (c, p)

/-- What funding the semaphores gives device `c`. -/
def G (c : Dev nD) : PP F :=
  iprop(own70 (fun i => roundState ER (Rd (Xs m) (Ws m)) (kcell i) 0) c ∗ own70 (fun i => atPos ER (kcell i) 0 ∅ 0) c
    ∗ own70 (fun i => reached ER (kcell i) 0) c ∗ own70 (fun i => dutyTok ER (kcell i) 0 ()) c)

theorem fund_ring : BI.own (ER (F := F) (initOf ringCells ringToks)) ⊢ (|==> bigSep Finset.univ (G m) : PP F) := by
  have hX (Φ : GSem nD τ sig → PP F) : bigSep ringCells Φ = bigSep Finset.univ fun c : Dev nD => own70 (fun i => Φ (kcell i)) c := by
    unfold ringCells; rw [bigSep_map, bigSep_univ_prod]; rfl
  have hT : bigSep ringToks (fun x => (dutyTok ER x.1 x.2.1 x.2.2 : PP F)) = bigSep Finset.univ fun c : Dev nD => own70 (fun i => dutyTok ER (kcell i) 0 ()) c := by
    unfold ringToks; rw [bigSep_map, bigSep_univ_prod]; rfl
  iintro HX
  imod (Rounds.fund ER (Rd (Xs m) (Ws m)) ringCells ringToks) $$ HX with ⟨Hst, Hr, Hat, Htok⟩
  imodintro
  ihave Hst := (Entails.of_eq (hX fun g => roundState ER (Rd (Xs m) (Ws m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

theorem ownSems_eq (c : Dev nD) : (ownSems0 (Ix := Unit) (Name := ℕ) (U := UU) (Lvl := ℕ) (Val := Elt F) (τ := τ) osem c : PP F)
    = iprop(own70 (fun i => semVal (kcell i) 0) c ∗ sems3 c) := by
  unfold ownSems0
  rw [bigSep_univ_sum, bigSep_univ_eq_bigSepL [(0 : Fin 3), 1, 2] (by decide) (by decide)]
  rfl

/-- The invariants of a device's semaphores. -/
theorem core_alloc (c : Dev nD) :
    iprop(own70 (fun i => semVal (kcell i) 0) c ∗ own70 (fun i => roundState ER (Rd (Xs m) (Ws m)) (kcell i) 0) c)
      ⊢ (|={Set.univ}=> own70 (fun i => iprop(∃ κ : ℕ, cellInv ER (Rd (Xs m) (Ws m)) κ (kcell i))) c : PP F) := by
  unfold own70
  rw [← bigSep_sep']
  exact (bigSep_mono fun p _ => (Rounds.body_intro ER (Rd (Xs m) (Ws m)) (kcell (c, p))).trans inv_alloc).trans (bigSep_fupd _ _)

/-! ## Over all devices and the seven steps -/

/-- `Φ` of every device and step. -/
abbrev AA (Φ : Dev nD → Fin 7 → PP F) : PP F := bigSep Finset.univ fun c => all7 (Φ c)

/-- The devices turned, each step by its own number. -/
theorem AA_turn (f : Fin 7 → ℕ) (Φ : Dev nD → Fin 7 → PP F) : AA Φ = AA fun c t => Φ (rot c (f t)) t := by
  have h (Ψ : Dev nD → Fin 7 → PP F) : AA Ψ = bigSep Finset.univ fun p : Dev nD × Fin 7 => Ψ p.1 p.2 := by
    unfold AA; rw [bigSep_univ_prod]; exact bigSep_congr fun c _ => all7_eq _
  rw [h, h]
  exact bigSep_univ_equiv (⟨fun p => (rot p.1 (f p.2), p.2), fun p => (rot p.1 (7 * f p.2), p.2),
    fun p => Prod.ext (by show rot (rot p.1 (f p.2)) (7 * f p.2) = p.1; rw [rot_rot, rot_self]; omega) rfl,
    fun p => Prod.ext (by show rot (rot p.1 (7 * f p.2)) (f p.2) = p.1; rw [rot_rot, rot_self]; omega) rfl⟩ : Dev nD × Fin 7 ≃ Dev nD × Fin 7) _

/-- All devices' seventy, kind by kind. -/
theorem all70 (Φ : Ce → PP F) : bigSep Finset.univ (own70 Φ)
    = iprop(AA (fun c t => Φ (c, 0, t)) ∗ AA (fun c t => Φ (c, 1, t)) ∗ AA (fun c t => Φ (c, 2, t)) ∗ AA (fun c t => Φ (c, 3, t)) ∗ AA (fun c t => Φ (c, 4, t))
      ∗ AA (fun c t => Φ (c, 5, t)) ∗ AA (fun c t => Φ (c, 6, t)) ∗ AA (fun c t => Φ (c, 7, t)) ∗ AA (fun c t => Φ (c, 8, t)) ∗ AA (fun c t => Φ (c, 9, t))) := by
  unfold AA
  simp only [← bigSep_sep']
  refine bigSep_congr fun c _ => ?_
  unfold own70
  rw [bigSep_univ_prod, bigSep_univ_eq_bigSepL [(0 : Fin 10), 1, 2, 3, 4, 5, 6, 7, 8, 9] (by decide) (by decide)]
  simp only [all7_eq]
  rfl

/-! ## The credits -/

/-- The credit of the `t`-th semaphore of kind `k`. -/
abbrev cr (k : Fin 10) (c : Dev nD) (t : Fin 7) : PP F := cred (tallyAt (cell c k t) () (amt k))

/-- Where the `t`-th send of each of the five kinds of receiving semaphore comes. -/
def nth (p : Fin 5 × Fin 7) : ℕ := (![2 * p.2.val, 2 * p.2.val + 1, 14 + p.2.val, 21 + 2 * p.2.val, 21 + 2 * p.2.val + 1] : Fin 5 → ℕ) p.1
theorem nth_injective : Function.Injective nth := by decide +kernel
theorem nth_all : Finset.Ico 0 35 = Finset.univ.map ⟨nth, nth_injective⟩ := by decide +kernel

theorem cred_of (k : Fin 10) (t : Fin 7) (i a b : ℕ) (hab : (a + b) % 8 = 0) (h : ∀ d, tgt d i = (rot d a, k, t)) (c : Dev nD) :
    (launchCred (fun d => due d i) c : PP F) ⊢ cr k c t := by
  have hd : (fun d => due d i) = fun d => tallyAt (cell (rot d a) k t) () (amt k) := funext fun d => by unfold due; rw [h d]
  rw [hd]
  exact Pipeline.launchCred_tallyAt (.dma (sm k t)) (fun d => rot d a) (fun d => rot d b)
    (fun d => by rw [rot_rot, rot_self]; omega) (fun d => by rw [rot_rot, rot_self]; omega) () (amt k) c

/-- The credits the launch deals a device. -/
theorem creds (c : Dev nD) : (launchCred (fun d => owed d 0) c : PP F)
    ⊢ iprop(all7 (cr 1 c) ∗ all7 (cr 5 c) ∗ all7 (cr 9 c) ∗ all7 (cr 3 c) ∗ all7 (cr 7 c)) := by
  unfold owed
  rw [Pipeline.launchCred_sum (Finset.Ico 0 35) (fun i d => due d i) c, nth_all, bigSep_map, bigSep_univ_prod,
    bigSep_univ_eq_bigSepL [(0 : Fin 5), 1, 2, 3, 4] (by decide) (by decide)]
  simp only [all7_eq]
  show iprop((bigSep Finset.univ fun t : Fin 7 => launchCred (fun d => due d (2 * t.val)) c) ∗ (bigSep Finset.univ fun t : Fin 7 => launchCred (fun d => due d (2 * t.val + 1)) c)
    ∗ (bigSep Finset.univ fun t : Fin 7 => launchCred (fun d => due d (14 + t.val)) c) ∗ (bigSep Finset.univ fun t : Fin 7 => launchCred (fun d => due d (21 + 2 * t.val)) c)
    ∗ (bigSep Finset.univ fun t : Fin 7 => launchCred (fun d => due d (21 + 2 * t.val + 1)) c)) ⊢ _
  iintro ⟨A, B, C, D, E⟩
  isplitl [A]
  · iapply (show _ ⊢ bigSep Finset.univ fun t => cr (F := F) 1 c t from bigSep_mono fun t _ => cred_of 1 t _ 1 7 rfl (fun d => tgt_r d t) c); iexact A
  isplitl [B]
  · iapply (show _ ⊢ bigSep Finset.univ fun t => cr (F := F) 5 c t from bigSep_mono fun t _ => cred_of 5 t _ 7 1 rfl (fun d => tgt_l d t) c); iexact B
  isplitl [C]
  · iapply (show _ ⊢ bigSep Finset.univ fun t => cr (F := F) 9 c t from bigSep_mono fun t _ => cred_of 9 t _ (1 + t.val) (7 - t.val) (by have := t.isLt; omega) (fun d => tgt_a d t) c); iexact C
  isplitl [D]
  · iapply (show _ ⊢ bigSep Finset.univ fun t => cr (F := F) 3 c t from bigSep_mono fun t _ => cred_of 3 t _ 1 7 rfl (fun d => tgt_fr d t) c); iexact D
  · iapply (show _ ⊢ bigSep Finset.univ fun t => cr (F := F) 7 c t from bigSep_mono fun t _ => cred_of 7 t _ 7 1 rfl (fun d => tgt_fl d t) c); iexact E

/-! ## The deal itself -/

/-- What device `c` brings: its positions, tokens and credits, and its arrays. -/
def brings (c : Dev nD) : PP F :=
  iprop(own70 (fun i => atPos ER (kcell i) 0 ∅ 0) c ∗ own70 (fun i => dutyTok ER (kcell i) 0 ()) c
    ∗ (all7 (cr 1 c) ∗ all7 (cr 5 c) ∗ all7 (cr 9 c) ∗ all7 (cr 3 c) ∗ all7 (cr 7 c))
    ∗ own_ c yM ∗ own_ c recvM ∗ own_ c outM)

theorem deal : (bigSep Finset.univ fun c => brings (F := F) c) ⊢ bigSep Finset.univ fun c => dealt (F := F) c := by
  unfold brings
  simp only [bigSep_sep']
  rw [all70 fun i => atPos ER (kcell i) 0 ∅ 0, all70 fun i => dutyTok ER (kcell i) 0 ()]
  iintro ⟨⟨P0, P1, P2, P3, P4, P5, P6, P7, P8, P9⟩, ⟨T0, T1, T2, T3, T4, T5, T6, T7, T8, T9⟩, ⟨C1, C5, C9, C3, C7⟩, HY, HV, HO⟩
  ihave HY := (show (bigSep Finset.univ fun c => own_ (F := F) c yM) ⊢ iprop((bigSep Finset.univ fun c => own_ (F := F) c (yC c 0)) ∗ (bigSep Finset.univ fun c => own_ (F := F) c (yC c 1))
      ∗ AA (fun c t => own_ (F := F) c (yC (rot c (7 - t.val)) 0)) ∗ AA fun c t => own_ (F := F) c (yC (rot c (t.val + 1)) 1)) by
    unfold AA; simp only [← bigSep_sep']; exact bigSep_mono fun c _ => y_split c) $$ HY
  icases HY with ⟨Y0, Y1, YR, YL⟩
  ihave HV := (show (bigSep Finset.univ fun c => own_ (F := F) c recvM) ⊢ iprop(AA (fun c t => own_ (F := F) c (recvR t)) ∗ AA fun c t => own_ (F := F) c (recvL t)) by
    unfold AA; simp only [← bigSep_sep']; exact bigSep_mono fun c _ => recv_split c) $$ HV
  icases HV with ⟨VR, VL⟩
  ihave HO := (show (bigSep Finset.univ fun c => own_ (F := F) c outM) ⊢ bigSep Finset.univ fun c => outs (outPre (F := F) c) c from bigSep_mono fun c _ => out_split c) $$ HO
  ihave T1 := (Entails.of_eq (AA_turn (fun _ => 1) fun c t => (dutyTok ER (cell c 1 t) 0 () : PP F))) $$ T1
  ihave T3 := (Entails.of_eq (AA_turn (fun _ => 1) fun c t => (dutyTok ER (cell c 3 t) 0 () : PP F))) $$ T3
  ihave T5 := (Entails.of_eq (AA_turn (fun _ => 7) fun c t => (dutyTok ER (cell c 5 t) 0 () : PP F))) $$ T5
  ihave T7 := (Entails.of_eq (AA_turn (fun _ => 7) fun c t => (dutyTok ER (cell c 7 t) 0 () : PP F))) $$ T7
  ihave T9 := (Entails.of_eq (AA_turn (fun t => 1 + t.val) fun c t => (dutyTok ER (cell c 9 t) 0 () : PP F))) $$ T9
  ihave VR := (Entails.of_eq (AA_turn (fun _ => 1) fun c t => own_ (F := F) c (recvR t))) $$ VR
  ihave VL := (Entails.of_eq (AA_turn (fun _ => 7) fun c t => own_ (F := F) c (recvL t))) $$ VL
  ihave YR := (show AA (fun c t => own_ (F := F) c (yC (rot c (7 - t.val)) 0)) ⊢ AA fun c t => own_ (F := F) (rot c 1) (yC (rot c (8 - t.val)) 0) by
    rw [AA_turn fun _ => 1]
    exact Entails.of_eq (congrArg AA (funext fun c => funext fun t => by
      rw [rot_rot, show 1 + (7 - t.val) = 8 - t.val by have := t.isLt; omega]))) $$ YR
  ihave YL := (show AA (fun c t => own_ (F := F) c (yC (rot c (t.val + 1)) 1)) ⊢ AA fun c t => own_ (F := F) (rot c 7) (yC (rot c t.val) 1) by
    rw [AA_turn fun _ => 7]
    exact Entails.of_eq (congrArg AA (funext fun c => funext fun t => by
      rw [rot_rot, rot_eq c (a := 7 + (t.val + 1)) (b := t.val) (by omega)]))) $$ YL
  unfold dealt
  simp only [bigSep_sep']
  isplitl [P0 P1 P4 P5 C1 C5]
  · unfold waitRes; simp only [all7_sep, bigSep_sep']
    isplitl [P0]; · iexact P0
    isplitl [P1]; · iexact P1
    isplitl [P4]; · iexact P4
    isplitl [P5]; · iexact P5
    isplitl [C1]; · iexact C1
    iexact C5
  isplitl [T0 T1 T4 T5 VR VL]
  · unfold sendRes; simp only [all7_sep, bigSep_sep']
    isplitl [T0]; · iexact T0
    isplitl [T1]; · iexact T1
    isplitl [T4]; · iexact T4
    isplitl [T5]; · iexact T5
    isplitl [VR]; · iexact VR
    iexact VL
  isplitl [T8 T9]
  · unfold axTok; simp only [all7_sep, bigSep_sep']
    isplitl [T8]; · iexact T8
    iexact T9
  isplitl [C9 P9]
  · unfold axIn; simp only [all7_sep, bigSep_sep']
    isplitl [C9]; · iexact C9
    iexact P9
  isplitl [P8]; · iexact P8
  isplitl [T2 T3 T6 T7 YR YL]
  · unfold fwdRes; simp only [all7_sep, bigSep_sep']
    isplitl [T2]; · iexact T2
    isplitl [T3]; · iexact T3
    isplitl [T6]; · iexact T6
    isplitl [T7]; · iexact T7
    isplitl [YR]; · iexact YR
    iexact YL
  isplitl [P2 P3 P6 P7 C3 C7]
  · unfold fwdW; simp only [all7_sep, bigSep_sep']
    isplitl [P2]; · iexact P2
    isplitl [P3]; · iexact P3
    isplitl [P6]; · iexact P6
    isplitl [P7]; · iexact P7
    isplitl [C3]; · iexact C3
    iexact C7
  isplitl [Y0]; · iexact Y0
  isplitl [Y1]; · iexact Y1
  iexact HO

/-- What the launch has of device `c`. -/
def before (c : Dev nD) : PP F :=
  iprop(ownSems0 (Ix := Unit) (Name := ℕ) (U := UU) (Lvl := ℕ) (Val := Elt F) (τ := τ) osem c ∗ G m c ∗ launchCred (fun d => owed d 0) c
    ∗ own_ c yM ∗ own_ c recvM ∗ own_ c outM)

/-- The launch's deal: from what it has of the devices to what each starts with. -/
theorem glob : iprop(levAts L lv ∗ bigSep Finset.univ (before m)) ⊢ (|={Set.univ}=> bigSep Finset.univ (start m) : PP F) := by
  unfold before G
  simp only [ownSems_eq, bigSep_sep']
  iintro ⟨#HL, ⟨HS, H3⟩, ⟨HR, HP, #Hre, HT⟩, HC, HY, HV, HO⟩
  imod (show iprop((bigSep Finset.univ fun c => own70 (fun i => semVal (kcell i) 0) c) ∗ bigSep Finset.univ fun c => own70 (fun i => roundState ER (Rd (Xs m) (Ws m)) (kcell i) 0) c)
      ⊢ (|={Set.univ}=> bigSep Finset.univ fun c => own70 (fun i => iprop(∃ κ : ℕ, cellInv ER (Rd (Xs m) (Ws m)) κ (kcell i))) c : PP F) by
    rw [← bigSep_sep']
    exact (bigSep_mono fun c _ => core_alloc m c).trans (bigSep_fupd _ _)) $$ [HS HR] with HI
  · isplitl [HS]; · iexact HS
    iexact HR
  imodintro
  ihave HI := (Entails.of_eq (bigSep_univ_prod (fun i : Ce => iprop(∃ κ : ℕ, cellInv ER (Rd (Xs m) (Ws m)) κ (kcell i)))).symm) $$ HI
  ihave HK := (BI.bigSep_exists_pi Finset.univ (fun (i : Ce) (κ : ℕ) => (cellInv ER (Rd (Xs m) (Ws m)) κ (kcell i) : PP F))) $$ HI
  icases HK with ⟨%K, #HI⟩
  unfold start
  simp only [bigSep_sep']
  isplitr [HP HT HC HY HV HO H3]
  · iapply (show recs (Xs m) (Ws m) K ⊢ bigSep Finset.univ fun _ : Dev nD => iprop(∃ K, recs (Xs m) (Ws m) K) from
      (BI.bigSep_of_persistent Finset.univ _).trans (bigSep_mono fun c _ => show recs (Xs m) (Ws m) K ⊢ iprop(∃ K, recs (Xs m) (Ws m) K) by
        iintro H; iexists K; iexact H))
    unfold recs
    isplitr; · iexact HI
    isplitr
    · iapply (Entails.of_eq (bigSep_univ_prod (fun i : Ce => (reached ER (kcell i) 0 : PP F))).symm)
      iexact Hre
    iexact HL
  isplitr [H3]
  · iapply (deal (F := F))
    unfold brings
    simp only [bigSep_sep']
    isplitl [HP]; · iexact HP
    isplitl [HT]; · iexact HT
    isplitl [HC]
    · simp only [← bigSep_sep']
      iapply (show _ ⊢ bigSep Finset.univ fun c => iprop(all7 (cr (F := F) 1 c) ∗ all7 (cr 5 c) ∗ all7 (cr 9 c) ∗ all7 (cr 3 c) ∗ all7 (cr 7 c)) from bigSep_mono fun c _ => creds (F := F) c)
      iexact HC
    isplitl [HY]; · iexact HY
    isplitl [HV]; · iexact HV
    iexact HO
  iexact H3

end Cert.KernelIdeal.Own

end
-- ==== Proof.Run.lean ====
module

public import proofs.«01_k».proof.Proof.Deal
public import Idealize.ShloMosaic.Lib.Pipeline.Launch
public import Idealize.ShloMosaic.Lib.Quiescent

@[expose] public section

noncomputable section

/-! # The run of the eight devices

From any memory to the memory at the end. The devices' result and receive buffers change hands at the launch, so the
launch is written out here: what each device's start is opened into, the deal between the devices, one device's run,
and what its end says of the memory. -/

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

open Idealize.ShloMosaic.Pipeline

variable (m : (ℓ : Loc nD τ sig) → Buf (Elt F) ℓ) (ρ : Dev nD → PrngReg)

/-! ## One device's start and end -/

/-- The pipeline's configuration with its (absent) tables. -/
abbrev pcfg (p : Fin 1) : PCfg sig Λ₀ (Elt F) := (cfgs p).toPCfg
abbrev padm (_ : Dev nD) (p : Fin 1) : (pcfg (F := F) p).Adm := (cfgs p).toPCfg_adm
abbrev CC : Dev nD → Fin 1 → Cfg sig Λ₀ := pinD (pcfg (F := F)) padm
/-- The proof data, each as a relation. -/
abbrev rd (p : Fin 1) (c : Dev nD) : RDat τ (Elt F) Unit ℕ UU ℕ (CC (F := F) c p) c := (dats m p c).toR

theorem sems_split (c : Dev nD) : (scopedSems0 (c : Thread nD τ) : PP F)
    = iprop((PerCore.cellsSems0 (CC (F := F)) 0 c ∗ ownSems0 osem c) ∗ PerCore.idleSems0 (CC (F := F)) cellOf_inj 0 (fun _ => ownSemFacts) c) :=
  PerCore.scopedSems0_split (CC (F := F)) cellOf_inj 0 (fun _ => winFacts0.to₀) (fun _ => ownSemFacts) c

theorem bufs_split (c : Dev nD) : (scopedBufs (c : Thread nD τ) : PP F) = iprop(Dat.staging (CC (F := F) c 0) c ∗ scopedRest spec0 c) :=
  PerCore.scopedBufs_split (CC (F := F)) 0 c winFacts0.to₀.stage_scoped winFacts0.to₀.stage_inj stage_whole0

/-- A device's arrays when it is launched: the two operands, and the three buffers the kernel works in. -/
theorem arrays_split (c : Dev nD) : unscopedBufs c (fun b => m ((c : Thread nD τ).loc b))
    ⊢ (iprop((rd m 0 c).arrays (rd m 0 c).A ∗ own_ c yM ∗ own_ c recvM ∗ own_ c outM) : PP F) := by
  rw [PerCore.unscopedBufs_split (CC (F := F)) 0 c winFacts0.to₀.arr_unscoped winFacts0.arr_inj,
    PerCore.RDat.arrays_eq pcfg padm (rd m) 0 c arr_whole0 (fun w => by show (dats m 0 c).share w = fullShare; unfold Dat.share; split <;> rfl)]
  iintro ⟨HA, HR⟩
  isplitl [HA]; · iexact HA
  ihave HR := (Entails.of_eq (unscopedRest0_eq c (fun b => m ((c : Thread nD τ).loc b)))) $$ HR
  icases HR with ⟨H0, H1, H2⟩
  isplitl [H1]; · iapply (any_own c main_v1_1 _); iexact H1
  isplitl [H2]; · iapply (any_own c main_v1_2 _); iexact H2
  iapply (any_own c main_v1_0 _); iexact H0

/-- What a device keeps to itself through the deal. -/
def keeps (c : Dev nD) : PP F :=
  iprop(scopedBufs (c : Thread nD τ) ∗ PerCore.cellsSems0 (CC (F := F)) 0 c ∗ PerCore.idleSems0 (CC (F := F)) cellOf_inj 0 (fun _ => ownSemFacts) c
    ∗ (rd m 0 c).arrays (rd m 0 c).A ∗ owes (c : Thread nD τ) (owed c 0) ∅)
/-- What it puts into the deal, save its ghost state. -/
def puts (c : Dev nD) : PP F :=
  iprop(ownSems0 (Ix := Unit) (Name := ℕ) (U := UU) (Lvl := ℕ) (Val := Elt F) (τ := τ) osem c ∗ launchCred (fun d => owed d 0) c
    ∗ own_ c yM ∗ own_ c recvM ∗ own_ c outM)

theorem opened (c : Dev nD) :
    coreInit (Ix := Unit) (Name := ℕ) (U := UU) (Lvl := ℕ) (owing fun d => owed d 0) 0 (⟨m, fun _ => 0, ρ⟩ : MemSt nD τ sig (Elt F)) (c : Thread nD τ)
      ⊢ (iprop(keeps m c ∗ puts c ∗ levels0 c) : PP F) := by
  refine (coreInit_boundary_owing (fun d => owed d 0) m ρ c).trans ?_
  unfold boundary keeps puts
  rw [sems_split]
  iintro ⟨⟨Hb, ⟨⟨Hc, Hs⟩, Hi⟩, -⟩, Hu, -, Ho, Hl, -, Hcr⟩
  ihave Hu := (arrays_split m c) $$ Hu
  icases Hu with ⟨Ha, Hy⟩
  isplitl [Hb Hc Hi Ha Ho]
  · isplitl [Hb]; · iexact Hb
    isplitl [Hc]; · iexact Hc
    isplitl [Hi]; · iexact Hi
    isplitl [Ha]; · iexact Ha
    iexact Ho
  isplitr [Hl]
  · isplitl [Hs]; · iexact Hs
    isplitl [Hcr]; · iexact Hcr
    iexact Hy
  iexact Hl

/-- The levels, once for all devices: only the devices' own threads have any. -/
theorem levelled : (bigSep Finset.univ fun c : Dev nD => levels0 (Ix := Unit) (Val := Elt F) (Name := ℕ) (U := UU) (Lvl := ℕ) (τ := τ) (sig := sig) c)
    ⊢ (|==> levAts L lv : PP F) := by
  classical
  have hnone (d : Dev nD) (p : Proc τ) (hp : p ≠ .tc) : (BI.emp : PP F) ⊢ coreLevAts ((d, p) : Thread nD τ) L lv := by
    unfold coreLevAts
    refine Entails.of_eq ?_
    rw [bigSep_congr (Ψ := fun _ : SemLoc sig => (BI.emp : PP F)) fun sm _ => by rw [L_of_ne (((d, p) : Thread nD τ), sm) hp, BI.bigSep_empty]]
    exact (BI.bigSep_emp_const _).symm
  have hone (d : Dev nD) : coreLevAts (d : Thread nD τ) L lv ⊢ (bigSep Finset.univ fun p : Proc τ => coreLevAts ((d, p) : Thread nD τ) L lv : PP F) := by
    rw [bigSep_univ_split (Proc.tc : Proc τ)]
    show coreLevAts (d : Thread nD τ) L lv ⊢ iprop(coreLevAts (d : Thread nD τ) L lv ∗ bigSep (Finset.univ.erase Proc.tc) fun p : Proc τ => coreLevAts ((d, p) : Thread nD τ) L lv)
    iintro H
    isplitl [H]; · iexact H
    iapply (show (BI.emp : PP F) ⊢ bigSep (Finset.univ.erase Proc.tc) fun p : Proc τ => coreLevAts ((d, p) : Thread nD τ) L lv from
      (Entails.of_eq (BI.bigSep_emp_const _).symm).trans (bigSep_mono fun p hp => hnone d p (Finset.ne_of_mem_erase hp)))
    iempintro
  have hall : (bigSep Finset.univ fun d : Dev nD => coreLevAts (d : Thread nD τ) L lv) ⊢ (levAts L lv : PP F) := by
    have h1 : (bigSep Finset.univ fun d : Dev nD => coreLevAts (d : Thread nD τ) L lv)
        ⊢ (bigSep Finset.univ fun d : Dev nD => bigSep Finset.univ fun p : Proc τ => coreLevAts ((d, p) : Thread nD τ) L lv : PP F) :=
      bigSep_mono fun d _ => hone d
    refine h1.trans ?_
    rw [← bigSep_univ_prod (fun t : Thread nD τ => (coreLevAts t L lv : PP F))]
    unfold levAts coreLevAts
    rw [bigSep_univ_prod (fun g : GSem nD τ sig => bigSep (L g) fun ι => (levAt g ι (lv g ι) : PP F))]
  have h2 (d : Dev nD) : levels0 d ⊢ (|==> coreLevAts (d : Thread nD τ) L lv : PP F) := by
    unfold levels0
    iintro H
    imod (lev_assign_cells (d : Thread nD τ) L lv) $$ H with ⟨-, H⟩
    imodintro
    iexact H
  have h3 : (bigSep Finset.univ fun c : Dev nD => levels0 c)
      ⊢ (|==> bigSep Finset.univ fun c : Dev nD => coreLevAts (c : Thread nD τ) L lv : PP F) :=
    (bigSep_mono fun d _ => h2 d).trans (BI.bigSep_bupd _ _)
  exact h3.trans (BI.bupd_mono hall)

/-- What a device runs from. -/
def enters (c : Dev nD) : PP F :=
  iprop(keeps m c ∗ (PerCore.cellsGhost (CC (F := F)) EP 0 c ∗ PerCore.toksInit (CC (F := F)) EP 0 c) ∗ levAts L lv ∗ start m c)

theorem launched :
    iprop((bigSep Finset.univ fun d : Dev nD => coreInit (Ix := Unit) (Name := ℕ) (U := UU) (Lvl := ℕ) (owing fun d => owed d 0) 0
        (⟨m, fun _ => 0, ρ⟩ : MemSt nD τ sig (Elt F)) (d : Thread nD τ)) ∗ ownU u₀)
      ⊢ (|={Set.univ}=> bigSep Finset.univ (enters m) : PP F) := by
  iintro ⟨H, Hu⟩
  ihave H := (show (bigSep Finset.univ fun d : Dev nD => coreInit (Ix := Unit) (Name := ℕ) (U := UU) (Lvl := ℕ) (owing fun d => owed d 0) 0
        (⟨m, fun _ => 0, ρ⟩ : MemSt nD τ sig (Elt F)) (d : Thread nD τ))
      ⊢ iprop(bigSep Finset.univ (keeps m) ∗ bigSep Finset.univ (puts (F := F)) ∗ bigSep Finset.univ fun c : Dev nD => levels0 c) from
    (bigSep_mono fun c _ => opened m ρ c).trans (Entails.of_eq ((bigSep_sep' _ _ _).trans (congrArg _ (bigSep_sep' _ _ _))))) $$ H
  icases H with ⟨Hk, Hp, Hl⟩
  imod (levelled (F := F)) $$ Hl with #Hla
  unfold u₀
  ihave Hu := (ownU_pair _ _) $$ Hu
  icases Hu with ⟨HP, HX⟩
  ihave HX := (own_pair_emb embR _ _) $$ HX
  icases HX with ⟨HX, -⟩
  imod (fund_ring m) $$ HX with HG
  imod (PerCore.fund_ghost (CC (F := F)) EP cellOf_inj) $$ HP with ⟨Hg, Ht⟩
  imod (glob m) $$ [Hp HG] with HS
  · isplitr; · iexact Hla
    unfold before puts
    simp only [bigSep_sep']
    icases Hp with ⟨H1, H2, H3⟩
    isplitl [H1]; · iexact H1
    isplitl [HG]; · iexact HG
    isplitl [H2]; · iexact H2
    iexact H3
  imodintro
  unfold enters
  simp only [bigSep_sep']
  isplitl [Hk]; · iexact Hk
  isplitl [Hg Ht]
  · isplitl [Hg]
    · iapply (show (bigSep Finset.univ fun c : Dev nD => bigSep Finset.univ fun p => PerCore.cellsGhost (CC (F := F)) EP p c)
        ⊢ bigSep Finset.univ fun c : Dev nD => PerCore.cellsGhost (CC (F := F)) EP 0 c from bigSep_mono fun c _ => BI.bigSep_elim (Finset.mem_univ (0 : Fin 1)))
      iexact Hg
    · iapply (show (bigSep Finset.univ fun c : Dev nD => bigSep Finset.univ fun p => PerCore.toksInit (CC (F := F)) EP p c)
        ⊢ bigSep Finset.univ fun c : Dev nD => (PerCore.toksInit (CC (F := F)) EP 0 c : PP F) from bigSep_mono fun c _ => BI.bigSep_elim (Finset.mem_univ (0 : Fin 1)))
      iexact Ht
  isplitr [HS]
  · iapply (BI.bigSep_of_persistent (Finset.univ : Finset (Dev nD)) (levAts L lv : PP F)); iexact Hla
  iexact HS

/-! ## What the body starts from and leaves -/

/-- The scoped buffers that are not staging ones, with the slots of the maxima apart, make the body's start. -/
theorem body_start (c : Dev nD) :
    iprop(start m c ∗ prefHeld (pcfg (F := F) 0).pre c (fun _ => fullShare.right) (padm c 0).1 ∗ scopedRest spec0 c) ⊢ (Φ₀ m c : PP F) := by
  rw [scopedRest0_eq]
  unfold Φ₀ bufs
  iintro ⟨HS, -, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩
  isplitl [HS]; · iexact HS
  isplitr [H8]
  · isplitl [H0]; · iapply (any_own c cc0_scratch0 f0); iexact H0
    isplitl [H1]; · iapply (any_own c cc0_scratch1 f1); iexact H1
    isplitl [H2]; · iapply (any_own c cc0_scratch2 f2); iexact H2
    isplitl [H3]; · iapply (any_own c cc0_scratch3 f3); iexact H3
    isplitl [H4]; · iapply (any_own c cc0_scratch4 f4); iexact H4
    isplitl [H5]; · iapply (any_own c cc0_scratch5 f5); iexact H5
    isplitl [H6]; · iapply (any_own c cc0_scratch6 f6); iexact H6
    iapply (any_own c cc0_scratch7 f7); iexact H7
  iapply (ax_split c)
  iapply (any_own c cc0_scratch8 f8); iexact H8

/-- A device's seventy, by kind. -/
theorem own70_eq (Φ : Ce → PP F) (c : Dev nD) : own70 Φ c
    = iprop((all7 fun t => Φ (c, 0, t)) ∗ (all7 fun t => Φ (c, 1, t)) ∗ (all7 fun t => Φ (c, 2, t)) ∗ (all7 fun t => Φ (c, 3, t)) ∗ (all7 fun t => Φ (c, 4, t))
      ∗ (all7 fun t => Φ (c, 5, t)) ∗ (all7 fun t => Φ (c, 6, t)) ∗ (all7 fun t => Φ (c, 7, t)) ∗ (all7 fun t => Φ (c, 8, t)) ∗ (all7 fun t => Φ (c, 9, t))) := by
  simp only [all7_eq]
  unfold own70
  rw [bigSep_univ_prod (fun p : Fin 10 × Fin 7 => Φ (c, p)), bigSep_univ_eq_bigSepL [(0 : Fin 10), 1, 2, 3, 4, 5, 6, 7, 8, 9] (by decide) (by decide)]
  rfl

/-- The body's end gives back every semaphore at zero and every buffer, and the result's pieces. -/
theorem body_end (c : Dev nD) : Φ₁ m c ⊢ (iprop(outs (outPost (Xs m) (Ws m) c) c ∗ ownSems0 osem c ∗ scopedRest spec0 c) : PP F) := by
  rw [scopedRest0_eq, ownSems_eq, own70_eq]
  unfold Φ₁ zeros70 zeros fwdZ bufs
  simp only [all7_sep]
  iintro ⟨HO, HS, ⟨⟨Z0, Z1, Z4, Z5⟩, ⟨Z2, Z3, Z6, Z7⟩, Z8, Z9⟩, ⟨B0, B1, B2, B3, B4, B5, B6, B7⟩, HX⟩
  isplitl [HO]; · iexact HO
  isplitr [B0 B1 B2 B3 B4 B5 B6 B7 HX]
  · isplitr [HS]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      iexact Z9
    iexact HS
  isplitl [B0]; · iapply (own_any c cc0_scratch0); iexact B0
  isplitl [B1]; · iapply (own_any c cc0_scratch1); iexact B1
  isplitl [B2]; · iapply (own_any c cc0_scratch2); iexact B2
  isplitl [B3]; · iapply (own_any c cc0_scratch3); iexact B3
  isplitl [B4]; · iapply (own_any c cc0_scratch4); iexact B4
  isplitl [B5]; · iapply (own_any c cc0_scratch5); iexact B5
  isplitl [B6]; · iapply (own_any c cc0_scratch6); iexact B6
  isplitl [B7]; · iapply (own_any c cc0_scratch7); iexact B7
  iapply (own_any c cc0_scratch8)
  iapply (ax_join c)
  iexact HX

theorem stage_dec : ∀ (w : Fin cfg0.W) (s : Fin (cfg0.win w).nbuf), dec ((cfg0.win w).sem s) = none := by decide

/-- The staging semaphores are below every send. -/
theorem waits (c : Dev nD) : (levAts L lv : PP F) ⊢ PerCore.RDat.cellsWaits (CC (F := F)) (rd m) () 0 c :=
  PerCore.RDat.cellsWaits_intro (CC (F := F)) (rd m) () 0 c fun w s t => by
    have hd : dec (((CC (F := F) c 0).win w).sem s) = none := stage_dec w s
    have h (n : ℕ) := mayWait (F := F) c (((CC (F := F) c 0).win w).sem s) n 0 (by unfold lv; rw [decS, hd]; exact le_refl _) (fun i _ _ => lvi_pos i)
    match t with
    | ⟨0, _⟩ => exact h 0
    | ⟨_ + 1, _⟩ =>
      have := h 35
      rw [owed_end] at this
      exact this

/-! ## One device's run -/

/-- What a device is left with: the operands' arrays, the result's pieces, its semaphores at zero. -/
def leaves (c : Dev nD) : PP F :=
  iprop((rd m 0 c).arraysAt (CC (F := F) c 0).N ∗ outs (outPost (Xs m) (Ws m) c) c ∗ scopedSems0 (c : Thread nD τ))

theorem device_run (c : Dev nD) :
    enters m c ⊢ (wp frame (wpE (defs (F := F)) (Variants.lift 𝒱₀) (c : Thread nD τ) none) Set.univ (main (F := F) c)
      (fun _ => post (liftTc (leaves m) BI.emp) (c : Thread nD τ)) : PP F) := by
  have hend : iprop(Φ₁ m c ∗ PerCore.cellsSems0 (CC (F := F)) 0 c ∗ Dat.staging (CC (F := F) c 0) c
        ∗ PerCore.idleSems0 (CC (F := F)) cellOf_inj 0 (fun _ => ownSemFacts) c)
      ⊢ (iprop(outs (outPost (Xs m) (Ws m) c) c ∗ scopedSems0 (c : Thread nD τ) ∗ scopedBufs (c : Thread nD τ)) : PP F) := by
    rw [sems_split, bufs_split]
    iintro ⟨HΦ, Hc, Hst, Hi⟩
    ihave H := (body_end m c) $$ HΦ
    icases H with ⟨HO, Hs, Hr⟩
    isplitl [HO]; · iexact HO
    isplitr [Hst Hr]
    · isplitr [Hi]
      · isplitl [Hc]; · iexact Hc
        iexact Hs
      iexact Hi
    isplitl [Hst]; · iexact Hst
    iexact Hr
  rw [show main (F := F) c = .op (.customCall (entry 0) ()) fun _ => .ret ⟨⟩ from rfl]
  unfold enters keeps
  iintro ⟨⟨Hb, Hc, Hi, Ha, Ho⟩, ⟨Hg, Ht⟩, Hla, HS⟩
  ihave Hw := (waits m c) $$ Hla
  iapply (fupd_wp frame (wpE (defs (F := F)) (Variants.lift 𝒱₀) (c : Thread nD τ) none) Set.univ _ _)
  imod (PerCore.RDat.cellsInit_alloc (CC (F := F)) (rd m) EP cellOf_inj 0 c) $$ [Hc Hg] with ⟨%κ, -, Hc⟩
  · isplitl [Hc]; · iexact Hc
    iexact Hg
  imodintro
  have h1 : (rd m 0 c).BodyObligation defs₀ 𝒱₀ () Set.univ := (body_obligation m c).loose.toR
  have h2 : iprop(start m c ∗ prefHeld (pcfg (F := F) 0).pre c (fun _ => fullShare.right) (padm c 0).1 ∗ scopedRest spec0 c) ⊢ (rd m 0 c).Φ 0 := body_start m c
  have h3 : iprop((rd m 0 c).Φ (Fin.last (CC (F := F) c 0).N) ∗ PerCore.cellsSems0 (CC (F := F)) 0 c ∗ Dat.staging (CC (F := F) c 0) c
        ∗ PerCore.idleSems0 (CC (F := F)) cellOf_inj 0 (fun _ => ownSemFacts) c)
      ⊢ (iprop(outs (outPost (Xs m) (Ws m) c) c ∗ scopedSems0 (c : Thread nD τ) ∗ scopedBufs (c : Thread nD τ)) : PP F) := hend
  have h4 := PerCore.RDat.wp_customCall_entry_frame (pcfg (F := F)) padm (rd m) () EP κ cellOf_inj 0 defs₀ 𝒱₀ (fun _ => fullShare.right) c Set.univ (fun _ _ => Set.mem_univ _)
    h1 block_pos0 none (fun _ h => absurd h (Option.not_mem_none _)) (X := start m c)
    (Y := outs (outPost (Xs m) (Ws m) c) c) (R := scopedRest spec0 c) (I := PerCore.idleSems0 (CC (F := F)) cellOf_inj 0 (fun _ => ownSemFacts) c)
    (Entails.of_eq (bufs_split c)) h2 h3 (α := PUnit) (k := fun _ => .ret PUnit.unit) (Q := fun _ => post (liftTc (leaves m) BI.emp) (c : Thread nD τ))
  iapply h4 $$ [Hb Hi Ha Ho Ht Hw Hc HS]
  · isplitl [Ha Ho Hw Hc Ht]
    · unfold PerCore.RDat.EntryPre RDat.owesAt owesWithin
      isplitl [Ha]; · iexact Ha
      isplitl [Ho]
      · iexists ∅
        isplitr; · ipureintro; rw [Finset.coe_empty]; exact Set.empty_subset _
        iexact Ho
      isplitl [Hw]; · iexact Hw
      isplitl [Hc]; · iexact Hc
      iexact Ht
    isplitr
    · unfold prefHeld
      iapply (Entails.of_eq (BI.bigSep_empty (Φ := fun k : Fin 0 => _)).symm)
      iempintro
    isplitl [HS]; · iexact HS
    isplitl [Hi]; · iexact Hi
    iexact Hb
  iintro ⟨HE, HO, Hs, -⟩
  rw [wp_ret]
  imodintro
  unfold post
  simp only [liftTc_tc]
  unfold leaves PerCore.RDat.EntryPost RDat.owesAt owesWithin
  icases HE with ⟨Ha, ⟨%w, -, Ho⟩⟩
  isplitr [Ho]
  · isplitl [Ha]; · iexact Ha
    isplitl [HO]; · iexact HO
    iexact Hs
  iexists w
  iexact Ho

/-! ## What a device's end says of the memory -/

/-- A piece of the result that is held is what the memory has there. -/
theorem piece_read (c j : Dev nD) (b h : Fin 2) (s : Phys nD τ sig (Elt F)) :
    iprop(outs (outPost (Xs m) (Ws m) c) c ∗ SI s)
      ⊢ (⌜(outC j b h).view.read (Elt F) (s.mem.mem ((c : Thread nD τ).loc main_v1_0)) = qv (Xs m) (Ws m) c j b h⌝ : PP F) := by
  have hpick : outs (outPost (Xs m) (Ws m) c) c ⊢ own1 c (outC j b h) (qv (Xs m) (Ws m) c j b h) := by
    have hb (b : Fin 2) : iprop(outPost (Xs m) (Ws m) c c b 0 ∗ all7 fun t : Fin 7 => outPost (Xs m) (Ws m) c (rot c (7 - t.val)) b 0)
        ⊢ own1 c (outC j b 0) (qv (Xs m) (Ws m) c j b 0) := by
      rw [← devs_back c fun j => outPost (Xs m) (Ws m) c j b 0]
      exact BI.bigSep_elim (Finset.mem_univ j)
    have hf (b : Fin 2) : iprop(outPost (Xs m) (Ws m) c c b 1 ∗ all7 fun t : Fin 7 => outPost (Xs m) (Ws m) c (rot c (t.val + 1)) b 1)
        ⊢ own1 c (outC j b 1) (qv (Xs m) (Ws m) c j b 1) := by
      rw [← devs_fwd c fun j => outPost (Xs m) (Ws m) c j b 1]
      exact BI.bigSep_elim (Finset.mem_univ j)
    rw [show outs (outPost (Xs m) (Ws m) c) c = iprop(out4 (outPost (Xs m) (Ws m) c) c c ∗ all7 fun t : Fin 7 =>
      out4 (outPost (Xs m) (Ws m) c) (rot c (7 - t.val)) (rot c (t.val + 1))) from rfl]
    unfold out4
    simp only [all7_sep]
    iintro ⟨⟨A0, A1, A2, A3⟩, B0, B1, B2, B3⟩
    match b, h with
    | 0, 0 => iapply (hb 0); isplitl [A0]; · iexact A0
              iexact B0
    | 0, 1 => iapply (hf 0); isplitl [A1]; · iexact A1
              iexact B1
    | 1, 0 => iapply (hb 1); isplitl [A2]; · iexact A2
              iexact B2
    | 1, 1 => iapply (hf 1); isplitl [A3]; · iexact A3
              iexact B3
  iintro ⟨HO, HSI⟩
  ihave HO := hpick $$ HO
  ihave HO := (show own1 c (outC j b h) (qv (Xs m) (Ws m) c j b h) ⊢ iprop(∃ f, ⌜(outC j b h).view.read (Elt F) f = qv (Xs m) (Ws m) c j b h⌝
      ∗ ((outC j b h).view.loc (c : Thread nD τ) ↦[(outC j b h).view.set]{fullShare} f)) from .rfl) $$ HO
  icases HO with ⟨%f, %hf, HO⟩
  ihave %hr := (SI_pointsTo_agree) $$ [HSI HO]
  · isplitl [HSI]; · iexact HSI
    iexact HO
  ipureintro
  exact (View.read_congr (fun i hi => hr i hi)).trans hf

theorem device_read (c : Dev nD) (s : Phys nD τ sig (Elt F)) :
    iprop(leaves m c ∗ SI s) ⊢ (|={Set.univ}=> iprop(⌜((∀ w, (rd m 0 c).ArrAt w (CC (F := F) c 0).N (s.mem.mem ((spec0 w).arr.view.loc (c : Thread nD τ))))
        ∧ ∀ j b h, (outC j b h).view.read (Elt F) (s.mem.mem ((c : Thread nD τ).loc main_v1_0)) = qv (Xs m) (Ws m) c j b h)
        ∧ ∀ sm : SemLoc sig, sm.isScoped .tc = true → s.mem.sem ((c : Thread nD τ), sm) = 0⌝ ∗ SI s) : PP F) := by
  unfold leaves
  iintro ⟨⟨Ha, HO, Hs⟩, HSI⟩
  ihave %hz := (tcScoped_read_pers c s) $$ [Hs HSI]
  · isplitl [Hs]; · iexact Hs
    iexact HSI
  ihave H := (PerCore.RDat.arraysAt_read pcfg padm (rd m) 0 c arr_whole0 (CC (F := F) c 0).N s) $$ [Ha HSI]
  · isplitl [Ha]; · iexact Ha
    iexact HSI
  icases H with ⟨%ha, HSI⟩
  ihave H := (persistent_entails_right (show iprop(outs (outPost (Xs m) (Ws m) c) c ∗ SI s)
      ⊢ (⌜∀ j b h, (outC j b h).view.read (Elt F) (s.mem.mem ((c : Thread nD τ).loc main_v1_0)) = qv (Xs m) (Ws m) c j b h⌝ : PP F) from
    fun x hx j b h => piece_read m c j b h s x hx)) $$ [HO HSI]
  · isplitl [HO]; · iexact HO
    iexact HSI
  icases H with ⟨%hq, -, HSI⟩
  imodintro
  isplitr
  · ipureintro; exact ⟨⟨ha, hq⟩, hz⟩
  iexact HSI

/-- A run from any memory ends with the operands as they were, each device's result the quantised sum piece by piece, and every semaphore at zero. -/
theorem run_main : θ_run (defs (F := F)) (onTc (τ := τ) (main (F := F))) ⟨m, fun _ => 0, ρ⟩ (fun r =>
    (∀ c : Dev nD, (r.2.mem ((c : Thread nD τ).loc main_arg0) = m ((c : Thread nD τ).loc main_arg0)
        ∧ r.2.mem ((c : Thread nD τ).loc main_arg1) = m ((c : Thread nD τ).loc main_arg1))
      ∧ ∀ j b h, (outC j b h).view.read (Elt F) (r.2.mem ((c : Thread nD τ).loc main_v1_0)) = qv (Xs m) (Ws m) c j b h)
    ∧ r.2.sem = fun _ => 0) := by
  refine (θ_run (defs (F := F)) _ _).mono (Q := fun r => (∀ c : Dev nD, ((∀ w, (rd m 0 c).ArrAt w (CC (F := F) c 0).N (r.2.mem ((spec0 w).arr.view.loc (c : Thread nD τ))))
        ∧ ∀ j b h, (outC j b h).view.read (Elt F) (r.2.mem ((c : Thread nD τ).loc main_v1_0)) = qv (Xs m) (Ws m) c j b h)
        ∧ ∀ sm : SemLoc sig, sm.isScoped .tc = true → r.2.sem ((c : Thread nD τ), sm) = 0)
      ∧ ∀ g : GSem nD τ sig, g.1.2 ≠ .tc → r.2.sem g = 0) (fun r hr => ⟨fun c => ⟨⟨?_, ?_⟩, (hr.1 c).1.2⟩, ?_⟩)
    (adequate_tpu (defs (F := F)) _ _ _ (reflect_intro_fupd_tc_sems (X := Unit) (Variants.lift 𝒱₀) (owing fun d => owed d 0) 0 (noBookings fun _ => le_rfl)
      (owing_of_ne _) (u₀ : UU) (fun _ => enters m) (fun _ => leaves m) (fun _ => iprop(emp)) Set.univ ?_ (fun _ c => device_run m c) fun _ => ?_))
  · exact (((dats m 0 c).toR_arrAt_iff 0 _ _).mp ((hr.1 c).1.1 0)).trans ((dats m 0 c).arrAt_in 0 rfl _)
  · exact (((dats m 0 c).toR_arrAt_iff 1 _ _).mp ((hr.1 c).1.1 1)).trans ((dats m 0 c).arrAt_in 1 rfl _)
  · exact sem_eq_zero_of_scoped (by decide) (sems_of_reads (fun c => (hr.1 c).2) hr.2)
  · iintro H
    imod (launched m ρ) $$ H with H
    imodintro
    iexists ()
    isplitl [H]; · iexact H
    iempintro
  · iintro ⟨H, -, Hz⟩ %s HSI
    ihave %hz := (scSems_read_zero m ρ s) $$ [Hz HSI]
    · isplitl [Hz]; · iexact Hz
      iexact HSI
    imod (posts_fupd Finset.univ (device_read m) s) $$ [H HSI] with %h
    · isplitl [H]; · iexact H
      iexact HSI
    imodintro
    ipureintro
    exact ⟨fun c => h c (Finset.mem_univ c), hz⟩

end Cert.KernelIdeal.Own

end
-- ==== Proof.Frames.lean ====
module

public import proofs.«01_k».proof.Defs
public import proofs.«01_k».proof.Proof.Gen.Kernel
public import proofs.«01_k».proof.Proof.Gen.ReferenceIdeal.Run
public import proofs.«01_k».proof.Proof.Run
public import Idealize.ShloMosaic.Lib.Quiescent

@[expose] public section

noncomputable section

/-! # The frames

The three programs run, leave their arguments as they were, and leave every semaphore at zero. -/

namespace Cert.Proof

open Idealize.ShloMosaic Idealize.SL.Sem

/-- The idealized kernel's frame, from its run over the extended reals. -/
theorem frame_ideal : quiescent_KernelIdeal (hKernelIdeal := Cert.KernelIdeal.Gen.facts) := fun m ρ _ =>
  (θ_run (Cert.KernelIdeal.defs (F := Ideal)) _ _).mono (fun _ h => ⟨fun c => (h.1 c).1, h.2⟩)
    (Cert.KernelIdeal.Own.run_main (F := Ideal) m ρ)

/-- The two printed kernels have the same table of bodies. -/
theorem same_bodies : @Cert.Kernel.defs₀ Bits _ _ = @Cert.KernelIdeal.defs₀ Bits _ _ := by
  unfold Cert.Kernel.defs₀ Cert.KernelIdeal.defs₀
  refine congrArg Defs.onTc (funext fun l => ?_)
  obtain rfl : l = (0 : Fin 1) := Subsingleton.elim _ _
  exact funext fun p => rfl

/-- So they have the same definitions. -/
theorem same_defs : Cert.Kernel.defs (F := Bits) = Cert.KernelIdeal.defs (F := Bits) :=
  congrArg (Pipeline.defs Cert.Kernel.pcfgs) same_bodies

/-- The kernel's frame: nothing was rewritten, so it is the same program and its run over the bits is the same proof. -/
theorem frame_kernel : quiescent_Kernel (hKernel := Cert.Kernel.Gen.facts) := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
    (θ_run (Cert.KernelIdeal.defs (F := Bits)) _ _).mono (fun _ h => ⟨fun c => (h.1 c).1, h.2⟩)
      (Cert.KernelIdeal.Own.run_main (F := Bits) m ρ)
  rw [same_defs]
  exact h

/-- The reference's frame: it is host code without a semaphore. -/
theorem frame_reference : quiescent_ReferenceIdeal (hReferenceIdeal := Cert.ReferenceIdeal.Gen.facts) := fun m ρ _ =>
  (θ_run (Cert.ReferenceIdeal.defs (F := Ideal)) _ _).mono (fun _ h => ⟨fun c => (h c).2, sem_eq_zero_of_no_sems rfl _⟩)
    (Cert.ReferenceIdeal.Value.run m ρ)

end Cert.Proof

end
-- ==== Proof.Sums.lean ====
module

public import proofs.«01_k».proof.Proof.Sched
public import Idealize.ShloMosaic.Lib.MatmulPlain
public import Idealize.ShloMosaic.Lib.Pointwise.Reshape
public import Idealize.ShloMosaic.PureOps.Ideal.Laws

@[expose] public section

noncomputable section

/-! # The sums around the rings, over the extended reals

What a device holds after its ring steps is a sum of devices' partial products; after the last step, of all of them. -/

namespace Cert.KernelIdeal.Own

open Cert.KernelIdeal Cert.KernelIdeal.Gen
open Idealize.ShloMosaic
open Idealize.ShloMosaic.TcCoe

/-- Row `r` of chunk `j`, among all rows. -/
def rowOf (j : Dev nD) (r : Fin 512) : Fin 4096 := ⟨512 * j.val + r.val, by have h8 : j.val < 8 := j.isLt; omega⟩
/-- Column `l` of half `h`, among all columns. -/
def colOf (h : Fin 2) (l : Fin 4096) : Fin 8192 := ⟨4096 * h.val + l.val, by omega⟩

/-- A step's product, stored and loaded again, at an entry. -/
theorem pay4_apply (A : Vec Ideal S512x512 .bf16) (B : Vec Ideal S512x4096 .bf16) (r : Fin 512) (l : Fin 4096) :
    k0_pay4 (k0_pay1 A B) (ValueIdx.ix2 r l) = ∑ k : Fin 512, A (ValueIdx.ix2 r k) * B (ValueIdx.ix2 k l) := by
  unfold k0_pay4 k0_pay1
  simp only [shapeCast_comp, shapeCast_id]
  refine (Ideal.matmul_plain_apply (M := 512) (K := 512) (N := 4096) (φ₁ := .bf16) (φ₂ := .bf16) none A B (constant S512x4096 .f32 0x00000000#32) r l).trans ?_
  show Ideal.ofBits .f32 0x00000000#32 + _ = _
  rw [Ideal.ofBits_zero_f32, zero_add]

/-- A step's sum is that product plus what came in. -/
theorem pay9_apply (A : Vec Ideal S512x512 .bf16) (B s : Vec Ideal S512x4096 .bf16) (i : S512x4096.Idx) :
    k0_pay9 (k0_pay1 A B) s i = (k0_pay4 (k0_pay1 A B) i + s i : EReal) := by
  unfold k0_pay9 k0_pay4
  simp only [shapeCast_id]
  rfl

section

variable (X : Dev nD → S4096x512.Idx → Elt Ideal .bf16) (W : Dev nD → S512x8192.Idx → Elt Ideal .bf16)

/-- Device `d`'s partial product at an entry of the whole result. -/
def part (d : Dev nD) (R : Fin 4096) (C : Fin 8192) : EReal := ∑ k : Fin 512, (X d (ValueIdx.ix2 R k) * W d (ValueIdx.ix2 k C) : EReal)

/-- The sum over the devices at an entry of the whole result. -/
def total (R : Fin 4096) (C : Fin 8192) : EReal := ∑ d : Dev nD, part X W d R C

theorem pR_apply (c : Dev nD) (s : Fin 8) (r : Fin 512) (l : Fin 4096) :
    k0_pay4 (pR X W c s) (ValueIdx.ix2 r l) = part X W c (rowOf (rot c (15 - s.val)) r) (colOf 0 l) := by
  unfold pR part
  rw [pay4_apply]
  refine Finset.sum_congr rfl fun k _ => congrArg₂ (fun a b : EReal => a * b) (congrArg (X c) (funext fun a => Fin.ext ?_))
    (congrArg (W c) (funext fun a => Fin.ext ?_))
  · have h := congrFun (k0_off1_eq c s) a
    have hs := s.isLt
    match a with
    | ⟨0, _⟩ =>
      show k0_off1 c (BitVec.ofNat 32 s.val) 0 + 1 * r.val = 512 * (rot c (15 - s.val)).val + r.val
      rw [show k0_off1 c (BitVec.ofNat 32 s.val) 0 = 512 * ((c.val + 15 - s.val) % 8) from h, rot_val,
        show c.val + 15 - s.val = c.val + (15 - s.val) by omega]
      omega
    | ⟨1, _⟩ =>
      show k0_off1 c (BitVec.ofNat 32 s.val) 1 + 1 * k.val = k.val
      rw [show k0_off1 c (BitVec.ofNat 32 s.val) 1 = 0 from h]; omega
  · match a with
    | ⟨0, _⟩ => show 0 + 1 * k.val = k.val; omega
    | ⟨1, _⟩ => show 0 + 1 * l.val = 4096 * 0 + l.val; omega

theorem pL_apply (c : Dev nD) (s : Fin 8) (r : Fin 512) (l : Fin 4096) :
    k0_pay4 (pL X W c s) (ValueIdx.ix2 r l) = part X W c (rowOf (rot c (s.val + 1)) r) (colOf 1 l) := by
  unfold pL part
  rw [pay4_apply]
  refine Finset.sum_congr rfl fun k _ => congrArg₂ (fun a b : EReal => a * b) (congrArg (X c) (funext fun a => Fin.ext ?_))
    (congrArg (W c) (funext fun a => Fin.ext ?_))
  · have h := congrFun (k0_off2_eq c s) a
    match a with
    | ⟨0, _⟩ =>
      show k0_off2 c (BitVec.ofNat 32 s.val) 0 + 1 * r.val = 512 * (rot c (s.val + 1)).val + r.val
      rw [show k0_off2 c (BitVec.ofNat 32 s.val) 0 = 512 * ((c.val + s.val + 1) % 8) from h, rot_val, Nat.add_assoc]
      omega
    | ⟨1, _⟩ =>
      show k0_off2 c (BitVec.ofNat 32 s.val) 1 + 1 * k.val = k.val
      rw [show k0_off2 c (BitVec.ofNat 32 s.val) 1 = 0 from h]; omega
  · match a with
    | ⟨0, _⟩ => show 0 + 1 * k.val = k.val; omega
    | ⟨1, _⟩ => show 4096 + 1 * l.val = 4096 * 1 + l.val; omega

/-- After `t` steps device `c` holds, for the right ring, the sum of the last `t + 1` devices' products. -/
theorem sR_apply (t : ℕ) (ht : t < 8) (c : Dev nD) (r : Fin 512) (l : Fin 4096) :
    sR X W t c (ValueIdx.ix2 r l) = ∑ i ∈ Finset.range (t + 1), part X W (rot c (8 - i)) (rowOf (rot c (15 - t)) r) (colOf 0 l) := by
  induction t generalizing c with
  | zero =>
    rw [Finset.sum_range_one, rot_self c (a := 8 - 0) rfl]
    exact pR_apply X W c 0 r l
  | succ t ih =>
    rw [Finset.sum_range_succ']
    refine (pay9_apply _ _ _ _).trans (Eq.trans (congrArg₂ (fun a b : EReal => a + b) ?_ ?_) (add_comm _ _))
    · refine (pR_apply X W c (Fin.ofNat 8 (t + 1)) r l).trans ?_
      rw [rot_self c (a := 8 - 0) rfl, show (Fin.ofNat 8 (t + 1)).val = t + 1 from Nat.mod_eq_of_lt ht]
    · rw [ih (by omega)]
      refine Finset.sum_congr rfl fun i hi => ?_
      have := Finset.mem_range.1 hi
      rw [rot_rot, rot_rot, rot_eq c (a := 7 + (8 - i)) (b := 8 - (i + 1)) (by omega), rot_eq c (a := 7 + (15 - t)) (b := 15 - (t + 1)) (by omega)]

/-- After `t` steps device `c` holds, for the left ring, the sum of the next `t + 1` devices' products. -/
theorem sL_apply (t : ℕ) (ht : t < 8) (c : Dev nD) (r : Fin 512) (l : Fin 4096) :
    sL X W t c (ValueIdx.ix2 r l) = ∑ i ∈ Finset.range (t + 1), part X W (rot c i) (rowOf (rot c (t + 1)) r) (colOf 1 l) := by
  induction t generalizing c with
  | zero =>
    rw [Finset.sum_range_one, rot_self c (a := 0) rfl]
    exact pL_apply X W c 0 r l
  | succ t ih =>
    rw [Finset.sum_range_succ']
    refine (pay9_apply _ _ _ _).trans (Eq.trans (congrArg₂ (fun a b : EReal => a + b) ?_ ?_) (add_comm _ _))
    · refine (pL_apply X W c (Fin.ofNat 8 (t + 1)) r l).trans ?_
      rw [rot_self c (a := 0) rfl, show (Fin.ofNat 8 (t + 1)).val = t + 1 from Nat.mod_eq_of_lt ht]
    · rw [ih (by omega)]
      refine Finset.sum_congr rfl fun i hi => ?_
      rw [rot_rot, rot_rot, Nat.add_comm 1 i, Nat.add_comm 1 (t + 1)]

/-- The devices met going forwards from `c` are all of them. -/
theorem sum_fwd (c : Dev nD) (f : Dev nD → EReal) : ∑ i ∈ Finset.range 8, f (rot c i) = ∑ d : Dev nD, f d := by
  rw [Finset.sum_range]
  refine Fintype.sum_bijective (fun i : Fin 8 => rot c i.val) ?_ _ _ fun _ => rfl
  revert c; decide

/-- The devices met going backwards from `c` are all of them. -/
theorem sum_back (c : Dev nD) (f : Dev nD → EReal) : ∑ i ∈ Finset.range 8, f (rot c (8 - i)) = ∑ d : Dev nD, f d := by
  rw [Finset.sum_range]
  refine Fintype.sum_bijective (fun i : Fin 8 => rot c (8 - i.val)) ?_ _ _ fun _ => rfl
  revert c; decide

/-- Each half of a device's reduced chunk is the sum over all devices. -/
theorem yv_apply (c : Dev nD) (h : Fin 2) (r : Fin 512) (l : Fin 4096) :
    yv X W c h (ValueIdx.ix2 r l) = total X W (rowOf c r) (colOf h l) := by
  match h with
  | 0 =>
    refine (sR_apply X W 7 (by decide) c r l).trans ?_
    rw [rot_self c (a := 15 - 7) rfl]
    exact sum_back c fun d => part X W d (rowOf c r) (colOf 0 l)
  | 1 =>
    refine (sL_apply X W 7 (by decide) c r l).trans ?_
    rw [rot_self c (a := 7 + 1) rfl]
    exact sum_fwd c fun d => part X W d (rowOf c r) (colOf 1 l)

/-! ## The maximum -/

/-- A maximum over a whole array, from −∞, is below `z` when every entry is. -/
theorem maxAll_le {s t : Shape} {axes : List (Fin s.rank)} (ht : ∀ b, t.size b = 1) (x : FVec Ideal s .f32) (h : s.Reduces axes t) (hφ hacc)
    (j : t.Idx) (z : EReal) : (multiReduction .maximumf axes t x 0xFF800000#32 h hφ hacc j : EReal) ≤ z ↔ ∀ i, (x i : EReal) ≤ z := by
  have hb : (FloatOps.ofBits (F := Ideal) .f32 0xFF800000#32 : EReal) = ⊥ := by
    show Ideal.ofBits .f32 0xFF800000#32 = ⊥
    simp [Ideal.ofBits, Ideal.ieee]
  rw [multiReduction_maximumf_eq_fold, Finset.filter_true_of_mem fun i _ => funext fun b => Fin.ext (by
    have := (h.drop i b).isLt; have := (j b).isLt; have := ht b; omega)]
  refine (Finset.fold_max_le (b := FloatOps.ofBits (F := Ideal) .f32 0xFF800000#32) (f := x) (s := Finset.univ) z).trans ?_
  rw [hb]
  simp

/-- The absolute value an entry's quantisation sees. -/
def abse (a : EReal) : EReal := max a (-a)

theorem absf_apply {s : Shape} (y : FVec Ideal s .bf16) (i : s.Idx) : (absf (extf .f32 y bitsLt_bf16_f32) i : EReal) = abse (y i) := rfl

/-- The value taken out of a reshaped array is one of its entries. -/
theorem extract_cast {s t : Shape} {α : Type} (x : s.Idx → α) (h : s.ShapeCasts t) (pos : Fin t.rank → ℕ) (hp : ∀ a, pos a < t.size a) :
    ∃ j, extractAt pos (shapeCast t x h) hp = x j := ⟨_, rfl⟩

/-- Reshaping an array does not change what its entries are. -/
theorem forall_cast {s t : Shape} {α : Type} (x : s.Idx → α) (h : s.ShapeCasts t) (p : α → Prop) :
    (∀ i, p (shapeCast t x h i)) ↔ ∀ i, p (x i) :=
  (Shape.reshapeEquiv h).forall_congr_left.trans (by simp [shapeCast])

/-- The same of the maximum taken out of its reshaped one-entry result, over a reshaped array. -/
theorem maxOut_le {s s' t t' : Shape} {axes : List (Fin s'.rank)} (ht : ∀ b, t.size b = 1) (x : FVec Ideal s .f32) (hc : s.ShapeCasts s')
    (h : s'.Reduces axes t) (hφ hacc) (hc' : t.ShapeCasts t') (pos : Fin t'.rank → ℕ) (hp : ∀ a, pos a < t'.size a) (z : EReal) :
    (extractAt pos (shapeCast t' (multiReduction .maximumf axes t (shapeCast s' x hc) 0xFF800000#32 h hφ hacc) hc') hp : EReal) ≤ z
      ↔ ∀ i, (x i : EReal) ≤ z := by
  obtain ⟨j, hj⟩ := extract_cast (multiReduction .maximumf axes t (shapeCast s' x hc) 0xFF800000#32 h hφ hacc) hc' pos hp
  rw [hj, maxAll_le ht]
  exact forall_cast x hc fun a : EReal => a ≤ z

/-- The scalar maximum is the maximum. -/
theorem smax_le (a b : Ideal .f32) (z : EReal) : (Scalar.maximumf a b : EReal) ≤ z ↔ (a : EReal) ≤ z ∧ (b : EReal) ≤ z := by
  rw [Ideal.scalar_maximumf_def]; exact max_le_iff

theorem size_S1 (b : Fin S1.rank) : S1.size b = 1 := by fin_cases b; rfl

/-- The maximum of two halves against a bound. -/
theorem pay41_le (y y' : Vec Ideal S512x4096 .bf16) (z : EReal) :
    (k0_pay41 y y' : EReal) ≤ z ↔ (∀ i, abse (y i) ≤ z) ∧ ∀ i, abse (y' i) ≤ z := by
  unfold k0_pay41
  rw [smax_le]
  exact and_congr (maxOut_le size_S1 (absf (extf .f32 y bitsLt_bf16_f32)) _ _ (.inl rfl) rfl _ _ _ z)
    (maxOut_le size_S1 (absf (extf .f32 y' bitsLt_bf16_f32)) _ _ (.inl rfl) rfl _ _ _ z)

/-- A device's maximum is below `z` when the absolute value of every entry of its chunk is. -/
theorem mloc_le (c : Dev nD) (z : EReal) :
    (mloc X W c : EReal) ≤ z ↔ ∀ h r l, abse (total X W (rowOf c r) (colOf h l)) ≤ z := by
  have hh (h : Fin 2) : (∀ i, abse (yv X W c h i) ≤ z) ↔ ∀ r l, abse (total X W (rowOf c r) (colOf h l)) ≤ z := by
    constructor
    · intro H r l
      rw [← yv_apply]; exact H _
    · intro H i
      exact (congrArg abse ((congrArg (yv X W c h) (ValueIdx.eq_ix2 i)).trans (yv_apply X W c h (i 0) (i 1)))).trans_le (H (i 0) (i 1))
  unfold mloc
  rw [pay41_le, hh, hh, Fin.forall_fin_two]

/-- A value spread over an array is each of its entries, however the array is reshaped. -/
theorem spread_apply (v : Ideal .f32) (i : S1x8x128.Idx) :
    unsq squeezes_S1x8x128_S8x128 (shapeCast S8x128 (broadcast S8x128 v) shapeCasts_S8x128_S8x128) i = v := rfl

/-- The maximum of a value and of another spread over an array. -/
theorem mx_spread_le (a v : Ideal .f32) (z : EReal) :
    (mx (F := Ideal) a (unsq squeezes_S1x8x128_S8x128 (shapeCast S8x128 (broadcast S8x128 v) shapeCasts_S8x128_S8x128)) : EReal) ≤ z
      ↔ (a : EReal) ≤ z ∧ (v : EReal) ≤ z := by
  unfold mx
  rw [smax_le]
  refine and_congr Iff.rfl ((maxOut_le size_S1 (unsq squeezes_S1x8x128_S8x128 (shapeCast S8x128 (broadcast S8x128 v) shapeCasts_S8x128_S8x128))
    _ _ (.inl rfl) rfl _ _ _ z).trans ?_)
  exact ⟨fun H => (spread_apply v (fun b => ⟨0, by fin_cases b <;> decide⟩)).symm.trans_le (H _), fun H i => (spread_apply v i).trans_le H⟩

/-- What a device sends of its maximum, reduced again, is that maximum. -/
theorem mx_le (a : Ideal .f32) (c : Dev nD) (z : EReal) :
    (mx (F := Ideal) a (unsq squeezes_S1x8x128_S8x128 (am X W c)) : EReal) ≤ z ↔ (a : EReal) ≤ z ∧ (mloc X W c : EReal) ≤ z := by
  unfold am k0_pay42 mloc
  exact mx_spread_le a _ z

/-- The maximum after `n` others, against a bound. -/
theorem mxs_le (c : Dev nD) (n : ℕ) (z : EReal) :
    (mxs X W c n : EReal) ≤ z ↔ (mloc X W c : EReal) ≤ z ∧ ∀ i < n, (mloc X W (rot c (7 - i)) : EReal) ≤ z := by
  induction n with
  | zero => exact ⟨fun h => ⟨h, fun i hi => absurd hi (Nat.not_lt_zero i)⟩, fun h => h.1⟩
  | succ n ih =>
    refine (mx_le X W _ _ z).trans ?_
    rw [ih, and_assoc]
    refine and_congr_right fun _ => ⟨fun H i hi => ?_, fun H => ⟨fun i hi => H i (by omega), H n (by omega)⟩⟩
    rcases Nat.lt_succ_iff_lt_or_eq.1 hi with h | rfl
    exacts [H.1 i h, H.2]

/-- The maximum a device ends with is below `z` when the absolute value of every entry of the whole sum is. -/
theorem amax_le (c : Dev nD) (z : EReal) : (mxs X W c 7 : EReal) ≤ z ↔ ∀ R C, abse (total X W R C) ≤ z := by
  rw [mxs_le]
  constructor
  · rintro ⟨H0, H⟩ R C
    have hall : ∀ d : Dev nD, (mloc X W d : EReal) ≤ z := by
      intro d
      by_cases hd : d = c
      · rw [hd]; exact H0
      · have h8 : c.val < 8 := c.isLt
        have h8' : d.val < 8 := d.isLt
        have hne : d.val ≠ c.val := fun e => hd (Fin.ext e)
        have := H (7 - (d.val + 8 - c.val) % 8) (by omega)
        rwa [show rot c (7 - (7 - (d.val + 8 - c.val) % 8)) = d from Fin.ext (by rw [rot_val]; omega)] at this
    have hR := R.isLt
    have hC := C.isLt
    have := (mloc_le X W ⟨R.val / 512, by show _ < 8; omega⟩ z).1 (hall _) ⟨C.val / 4096, by omega⟩ ⟨R.val % 512, by omega⟩ ⟨C.val % 4096, by omega⟩
    rwa [show rowOf ⟨R.val / 512, by show _ < 8; omega⟩ ⟨R.val % 512, by omega⟩ = R from Fin.ext (by show 512 * (R.val / 512) + R.val % 512 = _; omega),
      show colOf ⟨C.val / 4096, by omega⟩ ⟨C.val % 4096, by omega⟩ = C from Fin.ext (by show 4096 * (C.val / 4096) + C.val % 4096 = _; omega)] at this
  · intro H
    exact ⟨(mloc_le X W c z).2 fun h r l => H _ _, fun i _ => (mloc_le X W _ z).2 fun h r l => H _ _⟩

end

end Cert.KernelIdeal.Own

end
-- ==== Proof.Value.lean ====
module

public import proofs.«01_k».proof.Defs
public import proofs.«01_k».proof.Proof.Sums
public import proofs.«01_k».proof.Proof.Run
public import proofs.«01_k».proof.Proof.Gen.ReferenceIdeal.Run
public import Idealize.ShloMosaic.Lib.IdealHost
public import Idealize.ShloMosaic.Lib.StackMember
public import Idealize.ShloMosaic.Lib.Layout

@[expose] public section

noncomputable section

/-! # The kernel's result is the reference's, over the extended reals

Each entry of the product is the sum over the devices of their parts; each device's maximum is the maximum over the
whole product; a product with the scale's reciprocal, multiplied by the scale after rounding, is the quotient's. -/

namespace Cert.KernelIdeal.Own

open Cert.KernelIdeal Cert.KernelIdeal.Gen
open Idealize.ShloMosaic
open Idealize.ShloMosaic.TcCoe
open Idealize.SL.Sem

/-! ## One entry -/

/-- Rounding a quotient to an integer, holding it within ±127 and scaling it back. -/
def quant (s q : EReal) : EReal :=
  min (Ideal.ofBits .f32 0x42FE0000#32) (max (Ideal.ofBits .f32 0xC2FE0000#32) (Ideal.liftRound Ideal.roundHalfEven q)) * s

/-- Multiplying by the reciprocal instead of dividing does not change an entry: a zero scale makes both zero. -/
theorem quant_recip (s y : EReal) : quant s (y * Ideal.div (Ideal.ofBits .f32 0x3F800000#32) s) = quant s (Ideal.div y s) := by
  rw [Ideal.ofBits_one_f32]
  by_cases h : s = 0
  · unfold quant; rw [h, mul_zero, mul_zero]
  · rw [Ideal.mul_one_div h]

/-- An entry of what the kernel writes. -/
theorem pay52_apply (s : Ideal .f32) (v : Vec Ideal S256x4096 .bf16) (i : S256x4096.Idx) :
    (k0_pay52 s (rinvOf s) v i : EReal) = quant s (Ideal.div (v i) s) := by
  refine Eq.trans ?_ (quant_recip s (v i))
  unfold k0_pay52
  simp only [shapeCast_id]
  rfl

/-! ## The reference, entry by entry -/

section

open Cert.ReferenceIdeal (S4096x4096)
open Cert.ReferenceIdeal.Facts₀ (reducesTo_S4096x8192_S_d0_1 h_S_ bcast_S_S4096x8192)

/-- The reference's product of the two whole operands. -/
def prodOf (x : S4096x4096.Idx → Elt Ideal .bf16) (w : S4096x8192.Idx → Elt Ideal .bf16) : FVec Ideal S4096x8192 .f32 :=
  Host.dotGeneral (sl := S4096x4096) (sr := S4096x8192) (so := S4096x8192) Cert.ReferenceIdeal.dot_S4096x4096_S4096x8192_S4096x8192_1_0_0_1_n_n none
    (extf .f32 x bitsLt_bf16_f32) (extf .f32 w bitsLt_bf16_f32)

/-- The reference's largest absolute value, from −∞. -/
def amaxOf (Y : FVec Ideal S4096x8192 .f32) : FVec Ideal Cert.ReferenceIdeal.S_ .f32 :=
  Host.reduce FloatOps.maximumf (Host.absf Y) (constant Cert.ReferenceIdeal.S_ .f32 0xFF800000#32) reducesTo_S4096x8192_S_d0_1 h_S_

/-- The reference's scale. -/
def scaleRef (Y : FVec Ideal S4096x8192 .f32) : FVec Ideal Cert.ReferenceIdeal.S_ .f32 :=
  Host.divf (amaxOf Y) (constant Cert.ReferenceIdeal.S_ .f32 0x42FE0000#32)

/-- What the reference returns of its product. -/
def refOf (Y : FVec Ideal S4096x8192 .f32) : FVec Ideal S4096x8192 .f32 :=
  mulf (minimumf (broadcastInDim S4096x8192 ![] bcast_S_S4096x8192 (id (constant Cert.ReferenceIdeal.S_ .f32 0x42FE0000#32)))
      (maximumf (broadcastInDim S4096x8192 ![] bcast_S_S4096x8192 (id (constant Cert.ReferenceIdeal.S_ .f32 0xC2FE0000#32)))
        (Host.roundeven (Host.divf Y (broadcastInDim S4096x8192 ![] bcast_S_S4096x8192 (scaleRef Y))))))
    (broadcastInDim S4096x8192 ![] bcast_S_S4096x8192 (scaleRef Y))

/-- The last operations at an entry, over any arrays of bounds and scales. -/
theorem tail_apply {s : Shape} (hi lo Y S : FVec Ideal s .f32) (i : s.Idx) :
    (mulf (minimumf hi (maximumf lo (Host.roundeven (Host.divf Y S)))) S i : EReal)
      = min (hi i : EReal) (max (lo i : EReal) (Ideal.liftRound Ideal.roundHalfEven (Ideal.div (Y i) (S i)))) * (S i : EReal) := rfl

/-- An entry of what the reference returns. -/
theorem refOf_apply (Y : FVec Ideal S4096x8192 .f32) (i : S4096x8192.Idx) :
    (refOf Y i : EReal) = quant (scaleRef Y ValueIdx.ix0) (Ideal.div (Y i) (scaleRef Y ValueIdx.ix0)) := by
  unfold refOf
  rw [tail_apply]
  simp only [ValueIdx.broadcastInDim_scalar_apply]
  rfl

/-- The reference's product at an entry is the sum of the products along the whole inner dimension. -/
theorem prodOf_apply (x : S4096x4096.Idx → Elt Ideal .bf16) (w : S4096x8192.Idx → Elt Ideal .bf16) (R : Fin 4096) (C : Fin 8192) :
    (prodOf x w (ValueIdx.ix2 R C) : EReal) = ∑ k : Fin 4096, (x (ValueIdx.ix2 R k) * w (ValueIdx.ix2 k C) : EReal) :=
  StackMember.dotGeneral_plain_apply (φ₁ := .f32) (φ₂ := .f32) none (extf .f32 x bitsLt_bf16_f32) (extf .f32 w bitsLt_bf16_f32) R C

/-- The reference's maximum is below `z` when the absolute value of every entry is. -/
theorem amaxOf_le (Y : FVec Ideal S4096x8192 .f32) (z : EReal) :
    (amaxOf Y ValueIdx.ix0 : EReal) ≤ z ↔ ∀ i, abse (Y i) ≤ z := by
  have hb : (constant (F := Ideal) Cert.ReferenceIdeal.S_ .f32 0xFF800000#32 (Shape.Idx.first h_S_) : EReal) = ⊥ := by
    show Ideal.ofBits .f32 0xFF800000#32 = ⊥
    simp [Ideal.ofBits, Ideal.ieee]
  have hf (l : List S4096x8192.Idx) (a : EReal) :
      (l.foldl (fun r i => (FloatOps.maximumf (F := Ideal) (φ := .f32) r (Host.absf Y i) : EReal)) a : EReal) ≤ z ↔ a ≤ z ∧ ∀ i ∈ l, abse (Y i) ≤ z := by
    induction l generalizing a with
    | nil => simp
    | cons b l ih =>
      rw [List.foldl_cons, ih, List.forall_mem_cons, ← and_assoc]
      exact and_congr_left fun _ => max_le_iff
  unfold amaxOf
  rw [Host.reduce_eq_foldl]
  refine (hf _ _).trans ?_
  rw [hb]
  refine ⟨fun H i => H.2 i ?_, fun H => ⟨bot_le, fun i _ => H i⟩⟩
  refine List.mem_filter.2 ⟨List.mem_map.2 ⟨_, List.mem_finRange (S4096x8192.rowMajor i), Equiv.symm_apply_apply _ _⟩, ?_⟩
  exact decide_eq_true (funext fun a => a.elim0)

end

/-! ## The two together -/

section

variable (x : Cert.ReferenceIdeal.S4096x4096.Idx → Elt Ideal .bf16) (w : S4096x8192.Idx → Elt Ideal .bf16)
variable (X : Dev nD → S4096x512.Idx → Elt Ideal .bf16) (W : Dev nD → S512x8192.Idx → Elt Ideal .bf16)
variable (hX : ∀ c, X c = Layout.block ⟨2, ![4096, 512]⟩ ⟨2, ![4096, 4096]⟩ 1 8 c x)
variable (hW : ∀ c, W c = Layout.block ⟨2, ![512, 8192]⟩ ⟨2, ![4096, 8192]⟩ 0 8 c w)

include hX hW

/-- The sum over the devices of their parts is the whole product. -/
theorem total_eq (R : Fin 4096) (C : Fin 8192) : total X W R C = prodOf x w (ValueIdx.ix2 R C) := by
  rw [prodOf_apply, ← Equiv.sum_comp (finProdFinEquiv (m := 8) (n := 512)), Fintype.sum_prod_type]
  unfold total part
  refine Finset.sum_congr rfl fun d _ => Finset.sum_congr rfl fun k _ => ?_
  rw [hX, hW]
  refine congrArg₂ (fun a b : EReal => a * b) (congrArg x (funext fun a => Fin.ext ?_)) (congrArg w (funext fun a => Fin.ext ?_))
  · match a with
    | ⟨0, _⟩ => rfl
    | ⟨1, _⟩ => show d.val * 512 + k.val = k.val + 512 * d.val; omega
  · match a with
    | ⟨0, _⟩ => show d.val * 512 + k.val = k.val + 512 * d.val; omega
    | ⟨1, _⟩ => rfl

/-- Every device's maximum is the reference's. -/
theorem amax_eq (c : Dev nD) : (mxs X W c 7 : EReal) = amaxOf (prodOf x w) ValueIdx.ix0 := by
  refine eq_of_forall_ge_iff fun z => ?_
  rw [amax_le, amaxOf_le]
  constructor
  · intro H i
    exact (congrArg abse ((congrArg (prodOf x w) (ValueIdx.eq_ix2 i)).trans (total_eq x w X W hX hW (i 0) (i 1)).symm)).trans_le (H _ _)
  · intro H R C
    rw [total_eq x w X W hX hW]; exact H _

/-- What a device writes of each piece is the reference's entries there. -/
theorem qv_eq (c j : Dev nD) (b h : Fin 2) (r : Fin 256) (l : Fin 4096) :
    (qv X W c j b h (ValueIdx.ix2 r l) : EReal)
      = refOf (prodOf x w) (ValueIdx.ix2 (rowOf j ⟨256 * b.val + r.val, by omega⟩) (colOf h l)) := by
  have hs : (sca X W c : EReal) = scaleRef (prodOf x w) ValueIdx.ix0 :=
    congrArg (fun a : EReal => Ideal.div a (Ideal.ofBits .f32 0x42FE0000#32)) (amax_eq x w X W hX hW c)
  rw [refOf_apply, ← hs, ← total_eq x w X W hX hW, ← yv_apply]
  unfold qv
  refine (pay52_apply _ _ _).trans (congrArg (fun a : EReal => quant (sca X W c) (Ideal.div a (sca X W c))) (congrArg (yv X W j h) (funext fun a => Fin.ext ?_)))
  match a with
  | ⟨0, _⟩ => show 256 * b.val + 1 * r.val = 256 * b.val + r.val; omega
  | ⟨1, _⟩ => show 0 + 1 * l.val = l.val; omega

/-- An array whose pieces are what the device writes is the reference's result. -/
theorem pieces_eq (c : Dev nD) (f : S4096x8192.Idx → Elt Ideal .f32)
    (hf : ∀ j b h, (outC j b h).view.read (Elt Ideal) f = qv X W c j b h) : f = refOf (prodOf x w) := by
  funext i
  have h0 : (i 0).val < 4096 := (i 0).isLt
  have h1 : (i 1).val < 8192 := (i 1).isLt
  have hv := (congrFun (hf ⟨(i 0).val / 512, by show _ < 8; omega⟩ ⟨(i 0).val % 512 / 256, by omega⟩ ⟨(i 1).val / 4096, by omega⟩)
    (ValueIdx.ix2 ⟨(i 0).val % 256, by omega⟩ ⟨(i 1).val % 4096, by omega⟩)).trans (qv_eq x w X W hX hW c _ _ _ _ _)
  refine Eq.trans (congrArg f (funext fun a => Fin.ext ?_)) (hv.trans (congrArg (refOf (prodOf x w)) (funext fun a => Fin.ext ?_)))
  · match a with
    | ⟨0, _⟩ => show (i 0).val = 512 * ((i 0).val / 512) + 256 * ((i 0).val % 512 / 256) + 1 * ((i 0).val % 256); omega
    | ⟨1, _⟩ => show (i 1).val = 4096 * ((i 1).val / 4096) + 1 * ((i 1).val % 4096); omega
  · match a with
    | ⟨0, _⟩ => show 512 * ((i 0).val / 512) + (256 * ((i 0).val % 512 / 256) + (i 0).val % 256) = (i 0).val; omega
    | ⟨1, _⟩ => show 4096 * ((i 1).val / 4096) + (i 1).val % 4096 = (i 1).val; omega

end

end Cert.KernelIdeal.Own

namespace Cert.Proof

open Idealize.ShloMosaic Idealize.ShloMosaic.TcCoe Idealize.SL.Sem
open Cert.KernelIdeal.Own

/-- An offset of no blocks, in unit steps. -/
theorem zero_off (b n : ℕ) : 0 * b + 1 * n = n := by omega

/-- The first operand a device stages is its first argument; -/
theorem Xs_eq (m : (ℓ : Loc Cert.KernelIdeal.nD Cert.KernelIdeal.τ Cert.KernelIdeal.sig) → Buf (Elt Ideal) ℓ) (c : Dev Cert.KernelIdeal.nD) :
    Xs m c = m ((c.tc : Thread Cert.KernelIdeal.nD Cert.KernelIdeal.τ).loc Cert.KernelIdeal.main_arg0) := by
  refine funext fun i => congrArg (m ((c.tc : Thread Cert.KernelIdeal.nD Cert.KernelIdeal.τ).loc Cert.KernelIdeal.main_arg0)) (funext fun a => Fin.ext ?_)
  match a with
  | ⟨0, _⟩ => exact zero_off _ (i 0).val
  | ⟨1, _⟩ => exact zero_off _ (i 1).val

/-- the second its second. -/
theorem Ws_eq (m : (ℓ : Loc Cert.KernelIdeal.nD Cert.KernelIdeal.τ Cert.KernelIdeal.sig) → Buf (Elt Ideal) ℓ) (c : Dev Cert.KernelIdeal.nD) :
    Ws m c = m ((c.tc : Thread Cert.KernelIdeal.nD Cert.KernelIdeal.τ).loc Cert.KernelIdeal.main_arg1) := by
  refine funext fun i => congrArg (m ((c.tc : Thread Cert.KernelIdeal.nD Cert.KernelIdeal.τ).loc Cert.KernelIdeal.main_arg1)) (funext fun a => Fin.ext ?_)
  match a with
  | ⟨0, _⟩ => exact zero_off _ (i 0).val
  | ⟨1, _⟩ => exact zero_off _ (i 1).val

/-- Over the extended reals every device's result is the reference's, whatever the operands, and both leave their operands as they were. -/
theorem algebraic : algebraic_KernelIdeal_ReferenceIdeal := by
  intro m g m' g' _ hm
  refine ⟨refOf (prodOf (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))), ?_, ?_⟩
  · refine (θ_run (Cert.KernelIdeal.defs (F := Ideal)) _ _).mono (fun r h c => ⟨?_, (h.1 c).1.1, (h.1 c).1.2⟩) (run_main (F := Ideal) m g)
    exact pieces_eq _ _ (Xs m) (Ws m) (fun d => (Xs_eq m d).trans (hm d).1) (fun d => (Ws_eq m d).trans (hm d).2) c _ (h.1 c).2
  · exact (θ_run (Cert.ReferenceIdeal.defs (F := Ideal)) _ _).mono (fun r h => h 0) (Cert.ReferenceIdeal.Value.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The certificate's claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
